-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S4096x71x4 : Shape := ⟨3, ![4096, 71, 4]⟩
abbrev S4096x6 : Shape := ⟨2, ![4096, 6]⟩
abbrev S4096x71x14 : Shape := ⟨3, ![4096, 71, 14]⟩
abbrev S337x8 : Shape := ⟨2, ![337, 8]⟩
abbrev S33x8 : Shape := ⟨2, ![33, 8]⟩
abbrev S5x2 : Shape := ⟨2, ![5, 2]⟩
abbrev S17x5 : Shape := ⟨2, ![17, 5]⟩
abbrev S54x5 : Shape := ⟨2, ![54, 5]⟩
abbrev S22x5 : Shape := ⟨2, ![22, 5]⟩
abbrev S31x10 : Shape := ⟨2, ![31, 10]⟩
abbrev S6x2 : Shape := ⟨2, ![6, 2]⟩
abbrev S3x2 : Shape := ⟨2, ![3, 2]⟩
abbrev S7x3 : Shape := ⟨2, ![7, 3]⟩
abbrev S4096x71x10 : Shape := ⟨3, ![4096, 71, 10]⟩
abbrev S_ : Shape := ⟨0, ![]⟩

class Facts : Prop where
  slices_S4096x71x14_S4096x71x10_0_0_4 : S4096x71x14.Slices ![0, 0, 4] S4096x71x10
  bcast_S_S4096x71x10 : S_.BroadcastsInDim S4096x71x10 (![] : Fin 0 → Fin S4096x71x10.rank)

variable [Facts]

def fn {F : FTy → Type} [FloatOps F] (main_arg0 : FVec F S4096x71x4 .f32) (main_arg1 : FVec F S4096x6 .f32) (main_arg2 : IVec S4096x71x14 32) (main_arg3 : FVec F S337x8 .f32) (main_arg4 : FVec F S33x8 .f32) (main_arg5 : FVec F S5x2 .f32) (main_arg6 : FVec F S17x5 .f32) (main_arg7 : FVec F S54x5 .f32) (main_arg8 : FVec F S22x5 .f32) (main_arg9 : FVec F S31x10 .f32) (main_arg10 : FVec F S6x2 .f32) (main_arg11 : FVec F S3x2 .f32) (main_arg12 : FVec F S7x3 .f32) : IVec S4096x71x10 1 :=
  let main_v0 : IVec S4096x71x10 32 := (extractStridedSlice S4096x71x10 ![0, 0, 4] · slices_S4096x71x14_S4096x71x10_0_0_4) main_arg2
  let main_c : IVec S_ 32 := constantI S_ 32 0#32
  let main_v1 : IVec S4096x71x10 32 := broadcastInDim S4096x71x10 ![] bcast_S_S4096x71x10 main_c
  let main_v2 : IVec S4096x71x10 1 := cmpi .sge main_v0 main_v1
  let main_c_0 : IVec S_ 32 := constantI S_ 32 3#32
  let main_v3 : IVec S4096x71x10 32 := broadcastInDim S4096x71x10 ![] bcast_S_S4096x71x10 main_c_0
  let main_v4 : IVec S4096x71x10 1 := cmpi .slt main_v0 main_v3
  let main_v5 : IVec S4096x71x10 1 := andi main_v2 main_v4
  main_v5
-- ==== Kernel.lean ====
abbrev S4096x71x4 : Shape := ⟨3, ![4096, 71, 4]⟩
abbrev S4096x6 : Shape := ⟨2, ![4096, 6]⟩
abbrev S4096x71x14 : Shape := ⟨3, ![4096, 71, 14]⟩
abbrev S337x8 : Shape := ⟨2, ![337, 8]⟩
abbrev S33x8 : Shape := ⟨2, ![33, 8]⟩
abbrev S5x2 : Shape := ⟨2, ![5, 2]⟩
abbrev S17x5 : Shape := ⟨2, ![17, 5]⟩
abbrev S54x5 : Shape := ⟨2, ![54, 5]⟩
abbrev S22x5 : Shape := ⟨2, ![22, 5]⟩
abbrev S31x10 : Shape := ⟨2, ![31, 10]⟩
abbrev S6x2 : Shape := ⟨2, ![6, 2]⟩
abbrev S3x2 : Shape := ⟨2, ![3, 2]⟩
abbrev S7x3 : Shape := ⟨2, ![7, 3]⟩
abbrev S375x512 : Shape := ⟨2, ![375, 512]⟩
abbrev S697x1170 : Shape := ⟨2, ![697, 1170]⟩
abbrev S3x8 : Shape := ⟨2, ![3, 8]⟩
abbrev S3 : Shape := ⟨1, ![3]⟩
abbrev S3x1 : Shape := ⟨2, ![3, 1]⟩
abbrev S3x5 : Shape := ⟨2, ![3, 5]⟩
abbrev S3x10 : Shape := ⟨2, ![3, 10]⟩
abbrev S3x3 : Shape := ⟨2, ![3, 3]⟩
abbrev S3x50 : Shape := ⟨2, ![3, 50]⟩
abbrev S1x50 : Shape := ⟨2, ![1, 50]⟩
abbrev S1x14 : Shape := ⟨2, ![1, 14]⟩
abbrev S1x64 : Shape := ⟨2, ![1, 64]⟩
abbrev S1x512 : Shape := ⟨2, ![1, 512]⟩
abbrev S1x9 : Shape := ⟨2, ![1, 9]⟩
abbrev S1x59 : Shape := ⟨2, ![1, 59]⟩
abbrev S1x19 : Shape := ⟨2, ![1, 19]⟩
abbrev S1x78 : Shape := ⟨2, ![1, 78]⟩
abbrev S1x1170 : Shape := ⟨2, ![1, 1170]⟩
abbrev S4096x284 : Shape := ⟨2, ![4096, 284]⟩
abbrev S4096x994 : Shape := ⟨2, ![4096, 994]⟩
abbrev S4096x3584 : Shape := ⟨2, ![4096, 3584]⟩
abbrev S4096x1170 : Shape := ⟨2, ![4096, 1170]⟩
abbrev S512x284 : Shape := ⟨2, ![512, 284]⟩
abbrev S512x6 : Shape := ⟨2, ![512, 6]⟩
abbrev S512x994 : Shape := ⟨2, ![512, 994]⟩
abbrev S512x3584 : Shape := ⟨2, ![512, 3584]⟩
abbrev S512x1170 : Shape := ⟨2, ![512, 1170]⟩
abbrev S512x1 : Shape := ⟨2, ![512, 1]⟩
abbrev S512x32 : Shape := ⟨2, ![512, 32]⟩
abbrev S512x112 : Shape := ⟨2, ![512, 112]⟩
abbrev S512x375 : Shape := ⟨2, ![512, 375]⟩
abbrev S512x512 : Shape := ⟨2, ![512, 512]⟩
abbrev S512x60 : Shape := ⟨2, ![512, 60]⟩
abbrev S512x210 : Shape := ⟨2, ![512, 210]⟩
abbrev S512x697 : Shape := ⟨2, ![512, 697]⟩
abbrev S4096x56x64 : Shape := ⟨3, ![4096, 56, 64]⟩
abbrev S4096x15x78 : Shape := ⟨3, ![4096, 15, 78]⟩

abbrev nBuf : Space → Nat
  | .hbm => 21
  | .vmem => 24
  | .smem => 0
  | _ => 0

abbrev bufTy : (tb : Table) → Fin (tcTables nBuf tb) → BufTy
  | .hbm, ⟨0, _⟩ => ⟨S4096x71x4, .f32⟩
  | .hbm, ⟨1, _⟩ => ⟨S4096x6, .f32⟩
  | .hbm, ⟨2, _⟩ => ⟨S4096x71x14, .i32⟩
  | .hbm, ⟨3, _⟩ => ⟨S337x8, .f32⟩
  | .hbm, ⟨4, _⟩ => ⟨S33x8, .f32⟩
  | .hbm, ⟨5, _⟩ => ⟨S5x2, .f32⟩
  | .hbm, ⟨6, _⟩ => ⟨S17x5, .f32⟩
  | .hbm, ⟨7, _⟩ => ⟨S54x5, .f32⟩
  | .hbm, ⟨8, _⟩ => ⟨S22x5, .f32⟩
  | .hbm, ⟨9, _⟩ => ⟨S31x10, .f32⟩
  | .hbm, ⟨10, _⟩ => ⟨S6x2, .f32⟩
  | .hbm, ⟨11, _⟩ => ⟨S3x2, .f32⟩
  | .hbm, ⟨12, _⟩ => ⟨S7x3, .f32⟩
  | .hbm, ⟨13, _⟩ => ⟨S375x512, .f32⟩
  | .hbm, ⟨14, _⟩ => ⟨S697x1170, .f32⟩
  | .hbm, ⟨15, _⟩ => ⟨S4096x284, .f32⟩
  | .hbm, ⟨16, _⟩ => ⟨S4096x994, .i32⟩
  | .hbm, ⟨17, _⟩ => ⟨S4096x3584, .f32⟩
  | .hbm, ⟨18, _⟩ => ⟨S4096x1170, .f32⟩
  | .hbm, ⟨19, _⟩ => ⟨S4096x56x64, .f32⟩
  | .hbm, ⟨20, _⟩ => ⟨S4096x15x78, .f32⟩
  | .local _ .vmem, ⟨0, _⟩ => ⟨S337x8, .f32⟩
  | .local _ .vmem, ⟨1, _⟩ => ⟨S33x8, .f32⟩
  | .local _ .vmem, ⟨2, _⟩ => ⟨S5x2, .f32⟩
  | .local _ .vmem, ⟨3, _⟩ => ⟨S17x5, .f32⟩
  | .local _ .vmem, ⟨4, _⟩ => ⟨S54x5, .f32⟩
  | .local _ .vmem, ⟨5, _⟩ => ⟨S22x5, .f32⟩
  | .local _ .vmem, ⟨6, _⟩ => ⟨S31x10, .f32⟩
  | .local _ .vmem, ⟨7, _⟩ => ⟨S6x2, .f32⟩
  | .local _ .vmem, ⟨8, _⟩ => ⟨S3x2, .f32⟩
  | .local _ .vmem, ⟨9, _⟩ => ⟨S7x3, .f32⟩
  | .local _ .vmem, ⟨10, _⟩ => ⟨S375x512, .f32⟩
  | .local _ .vmem, ⟨11, _⟩ => ⟨S697x1170, .f32⟩
  | .local _ .vmem, ⟨12, _⟩ => ⟨S512x284, .f32⟩
  | .local _ .vmem, ⟨13, _⟩ => ⟨S512x284, .f32⟩
  | .local _ .vmem, ⟨14, _⟩ => ⟨S512x6, .f32⟩
  | .local _ .vmem, ⟨15, _⟩ => ⟨S512x6, .f32⟩
  | .local _ .vmem, ⟨16, _⟩ => ⟨S512x994, .i32⟩
  | .local _ .vmem, ⟨17, _⟩ => ⟨S512x994, .i32⟩
  | .local _ .vmem, ⟨18, _⟩ => ⟨S375x512, .f32⟩
  | .local _ .vmem, ⟨19, _⟩ => ⟨S697x1170, .f32⟩
  | .local _ .vmem, ⟨20, _⟩ => ⟨S512x3584, .f32⟩
  | .local _ .vmem, ⟨21, _⟩ => ⟨S512x3584, .f32⟩
  | .local _ .vmem, ⟨22, _⟩ => ⟨S512x1170, .f32⟩
  | .local _ .vmem, ⟨23, _⟩ => ⟨S512x1170, .f32⟩
  | _, _ => ⟨S4096x71x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := .none

abbrev stage0_0 : Fin 1 → Memref sig .tc .vmem S337x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S54x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S22x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S375x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S697x1170 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x284 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x994 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S375x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S697x1170 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x3584 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1170 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4096x71x4 : Shape := ⟨3, ![4096, 71, 4]⟩
abbrev S4096x6 : Shape := ⟨2, ![4096, 6]⟩
abbrev S4096x71x14 : Shape := ⟨3, ![4096, 71, 14]⟩
abbrev S337x8 : Shape := ⟨2, ![337, 8]⟩
abbrev S33x8 : Shape := ⟨2, ![33, 8]⟩
abbrev S5x2 : Shape := ⟨2, ![5, 2]⟩
abbrev S17x5 : Shape := ⟨2, ![17, 5]⟩
abbrev S54x5 : Shape := ⟨2, ![54, 5]⟩
abbrev S22x5 : Shape := ⟨2, ![22, 5]⟩
abbrev S31x10 : Shape := ⟨2, ![31, 10]⟩
abbrev S6x2 : Shape := ⟨2, ![6, 2]⟩
abbrev S3x2 : Shape := ⟨2, ![3, 2]⟩
abbrev S7x3 : Shape := ⟨2, ![7, 3]⟩
abbrev S4096x71x1 : Shape := ⟨3, ![4096, 71, 1]⟩
abbrev S4096x71 : Shape := ⟨2, ![4096, 71]⟩
abbrev S_ : Shape := ⟨0, ![]⟩
abbrev S1 : Shape := ⟨1, ![1]⟩
abbrev S1x1x1 : Shape := ⟨3, ![1, 1, 1]⟩
abbrev S4096x71x8 : Shape := ⟨3, ![4096, 71, 8]⟩
abbrev S4096x71x2 : Shape := ⟨3, ![4096, 71, 2]⟩
abbrev S4096x71x5 : Shape := ⟨3, ![4096, 71, 5]⟩
abbrev S4096x71x10 : Shape := ⟨3, ![4096, 71, 10]⟩
abbrev S4096x71x3 : Shape := ⟨3, ![4096, 71, 3]⟩
abbrev S4096x71x50 : Shape := ⟨3, ![4096, 71, 50]⟩
abbrev S4096x56x2 : Shape := ⟨3, ![4096, 56, 2]⟩
abbrev S4096x1x6 : Shape := ⟨3, ![4096, 1, 6]⟩
abbrev S4096x56x6 : Shape := ⟨3, ![4096, 56, 6]⟩
abbrev S4096x56x50 : Shape := ⟨3, ![4096, 56, 50]⟩
abbrev S4096x56x64 : Shape := ⟨3, ![4096, 56, 64]⟩
abbrev S15x15 : Shape := ⟨2, ![15, 15]⟩
abbrev S1x15x15 : Shape := ⟨3, ![1, 15, 15]⟩
abbrev S4096x15x15 : Shape := ⟨3, ![4096, 15, 15]⟩
abbrev S4096x15x2 : Shape := ⟨3, ![4096, 15, 2]⟩
abbrev S4096x15x1 : Shape := ⟨3, ![4096, 15, 1]⟩
abbrev S4096x15x6 : Shape := ⟨3, ![4096, 15, 6]⟩
abbrev S4096x15x50 : Shape := ⟨3, ![4096, 15, 50]⟩
abbrev S4096x15x78 : Shape := ⟨3, ![4096, 15, 78]⟩

abbrev nBuf : Space → Nat
  | .hbm => 493
  | .vmem => 0
  | .smem => 0
  | _ => 0

abbrev hbmTy0_0 (i : Nat) : BufTy := match i % 128 with
  | 0 => ⟨S4096x71x4, .f32⟩
  | 1 => ⟨S4096x6, .f32⟩
  | 2 => ⟨S4096x71x14, .i32⟩
  | 3 => ⟨S337x8, .f32⟩
  | 4 => ⟨S33x8, .f32⟩
  | 5 => ⟨S5x2, .f32⟩
  | 6 => ⟨S17x5, .f32⟩
  | 7 => ⟨S54x5, .f32⟩
  | 8 => ⟨S22x5, .f32⟩
  | 9 => ⟨S31x10, .f32⟩
  | 10 => ⟨S6x2, .f32⟩
  | 11 => ⟨S3x2, .f32⟩
  | 12 => ⟨S7x3, .f32⟩
  | 13 => ⟨S4096x71x1, .i32⟩
  | 14 => ⟨S4096x71, .i32⟩
  | 15 => ⟨S_, .i32⟩
  | 16 => ⟨S4096x71, .i32⟩
  | 17 => ⟨S4096x71, .i1⟩
  | 18 => ⟨S_, .i32⟩
  | 19 => ⟨S4096x71, .i32⟩
  | 20 => ⟨S4096x71, .i32⟩
  | 21 => ⟨S4096x71, .i32⟩
  | 22 => ⟨S4096x71x1, .i32⟩
  | 23 => ⟨S1, .i32⟩
  | 24 => ⟨S_, .i32⟩
  | 25 => ⟨S4096x71x1, .i32⟩
  | 26 => ⟨S4096x71x1, .i1⟩
  | 27 => ⟨S1x1x1, .i32⟩
  | 28 => ⟨S4096x71x1, .i32⟩
  | 29 => ⟨S4096x71x1, .i1⟩
  | 30 => ⟨S4096x71x1, .i1⟩
  | 31 => ⟨S_, .i1⟩
  | 32 => ⟨S4096x71, .i1⟩
  | 33 => ⟨S4096x71x8, .f32⟩
  | 34 => ⟨S4096x71x8, .i1⟩
  | 35 => ⟨S_, .f32⟩
  | 36 => ⟨S4096x71x8, .f32⟩
  | 37 => ⟨S4096x71x8, .f32⟩
  | 38 => ⟨S4096x71x8, .f32⟩
  | 39 => ⟨S_, .f32⟩
  | 40 => ⟨S4096x71, .f32⟩
  | 41 => ⟨S4096x71x1, .f32⟩
  | 42 => ⟨S4096x71x1, .f32⟩
  | 43 => ⟨S_, .f32⟩
  | 44 => ⟨S4096x71x1, .f32⟩
  | 45 => ⟨S4096x71x1, .i1⟩
  | 46 => ⟨S_, .f32⟩
  | 47 => ⟨S4096x71x1, .f32⟩
  | 48 => ⟨S4096x71x1, .f32⟩
  | 49 => ⟨S_, .f32⟩
  | 50 => ⟨S4096x71x1, .f32⟩
  | 51 => ⟨S4096x71x1, .f32⟩
  | 52 => ⟨S_, .f32⟩
  | 53 => ⟨S_, .f32⟩
  | 54 => ⟨S4096x71x1, .f32⟩
  | 55 => ⟨S4096x71x1, .f32⟩
  | 56 => ⟨S4096x71x8, .f32⟩
  | 57 => ⟨S4096x71x8, .f32⟩
  | 58 => ⟨S4096x71x1, .i32⟩
  | 59 => ⟨S4096x71, .i32⟩
  | 60 => ⟨S_, .i32⟩
  | 61 => ⟨S4096x71, .i32⟩
  | 62 => ⟨S4096x71, .i1⟩
  | 63 => ⟨S_, .i32⟩
  | 64 => ⟨S4096x71, .i32⟩
  | 65 => ⟨S4096x71, .i32⟩
  | 66 => ⟨S4096x71, .i32⟩
  | 67 => ⟨S4096x71x1, .i32⟩
  | 68 => ⟨S1, .i32⟩
  | 69 => ⟨S_, .i32⟩
  | 70 => ⟨S4096x71x1, .i32⟩
  | 71 => ⟨S4096x71x1, .i1⟩
  | 72 => ⟨S1x1x1, .i32⟩
  | 73 => ⟨S4096x71x1, .i32⟩
  | 74 => ⟨S4096x71x1, .i1⟩
  | 75 => ⟨S4096x71x1, .i1⟩
  | 76 => ⟨S_, .i1⟩
  | 77 => ⟨S4096x71, .i1⟩
  | 78 => ⟨S4096x71x8, .f32⟩
  | 79 => ⟨S4096x71x8, .i1⟩
  | 80 => ⟨S_, .f32⟩
  | 81 => ⟨S4096x71x8, .f32⟩
  | 82 => ⟨S4096x71x8, .f32⟩
  | 83 => ⟨S4096x71x8, .f32⟩
  | 84 => ⟨S_, .f32⟩
  | 85 => ⟨S4096x71, .f32⟩
  | 86 => ⟨S4096x71x1, .f32⟩
  | 87 => ⟨S4096x71x1, .f32⟩
  | 88 => ⟨S_, .f32⟩
  | 89 => ⟨S4096x71x1, .f32⟩
  | 90 => ⟨S4096x71x1, .i1⟩
  | 91 => ⟨S_, .f32⟩
  | 92 => ⟨S4096x71x1, .f32⟩
  | 93 => ⟨S4096x71x1, .f32⟩
  | 94 => ⟨S_, .f32⟩
  | 95 => ⟨S4096x71x1, .f32⟩
  | 96 => ⟨S4096x71x1, .f32⟩
  | 97 => ⟨S_, .f32⟩
  | 98 => ⟨S_, .f32⟩
  | 99 => ⟨S4096x71x1, .f32⟩
  | 100 => ⟨S4096x71x1, .f32⟩
  | 101 => ⟨S4096x71x8, .f32⟩
  | 102 => ⟨S4096x71x8, .f32⟩
  | 103 => ⟨S4096x71x1, .i32⟩
  | 104 => ⟨S4096x71, .i32⟩
  | 105 => ⟨S_, .i32⟩
  | 106 => ⟨S4096x71, .i32⟩
  | 107 => ⟨S4096x71, .i1⟩
  | 108 => ⟨S_, .i32⟩
  | 109 => ⟨S4096x71, .i32⟩
  | 110 => ⟨S4096x71, .i32⟩
  | 111 => ⟨S4096x71, .i32⟩
  | 112 => ⟨S4096x71x1, .i32⟩
  | 113 => ⟨S1, .i32⟩
  | 114 => ⟨S_, .i32⟩
  | 115 => ⟨S4096x71x1, .i32⟩
  | 116 => ⟨S4096x71x1, .i1⟩
  | 117 => ⟨S1x1x1, .i32⟩
  | 118 => ⟨S4096x71x1, .i32⟩
  | 119 => ⟨S4096x71x1, .i1⟩
  | 120 => ⟨S4096x71x1, .i1⟩
  | 121 => ⟨S_, .i1⟩
  | 122 => ⟨S4096x71, .i1⟩
  | 123 => ⟨S4096x71x2, .f32⟩
  | 124 => ⟨S4096x71x2, .i1⟩
  | 125 => ⟨S_, .f32⟩
  | 126 => ⟨S4096x71x2, .f32⟩
  | 127 => ⟨S4096x71x2, .f32⟩
  | _ => ⟨S4096x71x4, .f32⟩

abbrev hbmTy0_1 (i : Nat) : BufTy := match i % 128 with
  | 0 => ⟨S4096x71x2, .f32⟩
  | 1 => ⟨S_, .f32⟩
  | 2 => ⟨S4096x71, .f32⟩
  | 3 => ⟨S4096x71x1, .f32⟩
  | 4 => ⟨S4096x71x1, .f32⟩
  | 5 => ⟨S_, .f32⟩
  | 6 => ⟨S4096x71x1, .f32⟩
  | 7 => ⟨S4096x71x1, .i1⟩
  | 8 => ⟨S_, .f32⟩
  | 9 => ⟨S4096x71x1, .f32⟩
  | 10 => ⟨S4096x71x1, .f32⟩
  | 11 => ⟨S_, .f32⟩
  | 12 => ⟨S4096x71x1, .f32⟩
  | 13 => ⟨S4096x71x1, .f32⟩
  | 14 => ⟨S_, .f32⟩
  | 15 => ⟨S_, .f32⟩
  | 16 => ⟨S4096x71x1, .f32⟩
  | 17 => ⟨S4096x71x1, .f32⟩
  | 18 => ⟨S4096x71x2, .f32⟩
  | 19 => ⟨S4096x71x2, .f32⟩
  | 20 => ⟨S4096x71x1, .i32⟩
  | 21 => ⟨S4096x71, .i32⟩
  | 22 => ⟨S_, .i32⟩
  | 23 => ⟨S4096x71, .i32⟩
  | 24 => ⟨S4096x71, .i1⟩
  | 25 => ⟨S_, .i32⟩
  | 26 => ⟨S4096x71, .i32⟩
  | 27 => ⟨S4096x71, .i32⟩
  | 28 => ⟨S4096x71, .i32⟩
  | 29 => ⟨S4096x71x1, .i32⟩
  | 30 => ⟨S1, .i32⟩
  | 31 => ⟨S_, .i32⟩
  | 32 => ⟨S4096x71x1, .i32⟩
  | 33 => ⟨S4096x71x1, .i1⟩
  | 34 => ⟨S1x1x1, .i32⟩
  | 35 => ⟨S4096x71x1, .i32⟩
  | 36 => ⟨S4096x71x1, .i1⟩
  | 37 => ⟨S4096x71x1, .i1⟩
  | 38 => ⟨S_, .i1⟩
  | 39 => ⟨S4096x71, .i1⟩
  | 40 => ⟨S4096x71x5, .f32⟩
  | 41 => ⟨S4096x71x5, .i1⟩
  | 42 => ⟨S_, .f32⟩
  | 43 => ⟨S4096x71x5, .f32⟩
  | 44 => ⟨S4096x71x5, .f32⟩
  | 45 => ⟨S4096x71x5, .f32⟩
  | 46 => ⟨S_, .f32⟩
  | 47 => ⟨S4096x71, .f32⟩
  | 48 => ⟨S4096x71x1, .f32⟩
  | 49 => ⟨S4096x71x1, .f32⟩
  | 50 => ⟨S_, .f32⟩
  | 51 => ⟨S4096x71x1, .f32⟩
  | 52 => ⟨S4096x71x1, .i1⟩
  | 53 => ⟨S_, .f32⟩
  | 54 => ⟨S4096x71x1, .f32⟩
  | 55 => ⟨S4096x71x1, .f32⟩
  | 56 => ⟨S_, .f32⟩
  | 57 => ⟨S4096x71x1, .f32⟩
  | 58 => ⟨S4096x71x1, .f32⟩
  | 59 => ⟨S_, .f32⟩
  | 60 => ⟨S_, .f32⟩
  | 61 => ⟨S4096x71x1, .f32⟩
  | 62 => ⟨S4096x71x1, .f32⟩
  | 63 => ⟨S4096x71x5, .f32⟩
  | 64 => ⟨S4096x71x5, .f32⟩
  | 65 => ⟨S4096x71x1, .i32⟩
  | 66 => ⟨S4096x71, .i32⟩
  | 67 => ⟨S_, .i32⟩
  | 68 => ⟨S4096x71, .i32⟩
  | 69 => ⟨S4096x71, .i1⟩
  | 70 => ⟨S_, .i32⟩
  | 71 => ⟨S4096x71, .i32⟩
  | 72 => ⟨S4096x71, .i32⟩
  | 73 => ⟨S4096x71, .i32⟩
  | 74 => ⟨S4096x71x1, .i32⟩
  | 75 => ⟨S1, .i32⟩
  | 76 => ⟨S_, .i32⟩
  | 77 => ⟨S4096x71x1, .i32⟩
  | 78 => ⟨S4096x71x1, .i1⟩
  | 79 => ⟨S1x1x1, .i32⟩
  | 80 => ⟨S4096x71x1, .i32⟩
  | 81 => ⟨S4096x71x1, .i1⟩
  | 82 => ⟨S4096x71x1, .i1⟩
  | 83 => ⟨S_, .i1⟩
  | 84 => ⟨S4096x71, .i1⟩
  | 85 => ⟨S4096x71x5, .f32⟩
  | 86 => ⟨S4096x71x5, .i1⟩
  | 87 => ⟨S_, .f32⟩
  | 88 => ⟨S4096x71x5, .f32⟩
  | 89 => ⟨S4096x71x5, .f32⟩
  | 90 => ⟨S4096x71x5, .f32⟩
  | 91 => ⟨S_, .f32⟩
  | 92 => ⟨S4096x71, .f32⟩
  | 93 => ⟨S4096x71x1, .f32⟩
  | 94 => ⟨S4096x71x1, .f32⟩
  | 95 => ⟨S_, .f32⟩
  | 96 => ⟨S4096x71x1, .f32⟩
  | 97 => ⟨S4096x71x1, .i1⟩
  | 98 => ⟨S_, .f32⟩
  | 99 => ⟨S4096x71x1, .f32⟩
  | 100 => ⟨S4096x71x1, .f32⟩
  | 101 => ⟨S_, .f32⟩
  | 102 => ⟨S4096x71x1, .f32⟩
  | 103 => ⟨S4096x71x1, .f32⟩
  | 104 => ⟨S_, .f32⟩
  | 105 => ⟨S_, .f32⟩
  | 106 => ⟨S4096x71x1, .f32⟩
  | 107 => ⟨S4096x71x1, .f32⟩
  | 108 => ⟨S4096x71x5, .f32⟩
  | 109 => ⟨S4096x71x5, .f32⟩
  | 110 => ⟨S4096x71x1, .i32⟩
  | 111 => ⟨S4096x71, .i32⟩
  | 112 => ⟨S_, .i32⟩
  | 113 => ⟨S4096x71, .i32⟩
  | 114 => ⟨S4096x71, .i1⟩
  | 115 => ⟨S_, .i32⟩
  | 116 => ⟨S4096x71, .i32⟩
  | 117 => ⟨S4096x71, .i32⟩
  | 118 => ⟨S4096x71, .i32⟩
  | 119 => ⟨S4096x71x1, .i32⟩
  | 120 => ⟨S1, .i32⟩
  | 121 => ⟨S_, .i32⟩
  | 122 => ⟨S4096x71x1, .i32⟩
  | 123 => ⟨S4096x71x1, .i1⟩
  | 124 => ⟨S1x1x1, .i32⟩
  | 125 => ⟨S4096x71x1, .i32⟩
  | 126 => ⟨S4096x71x1, .i1⟩
  | 127 => ⟨S4096x71x1, .i1⟩
  | _ => ⟨S4096x71x4, .f32⟩

abbrev hbmTy0_2 (i : Nat) : BufTy := match i % 128 with
  | 0 => ⟨S_, .i1⟩
  | 1 => ⟨S4096x71, .i1⟩
  | 2 => ⟨S4096x71x5, .f32⟩
  | 3 => ⟨S4096x71x5, .i1⟩
  | 4 => ⟨S_, .f32⟩
  | 5 => ⟨S4096x71x5, .f32⟩
  | 6 => ⟨S4096x71x5, .f32⟩
  | 7 => ⟨S4096x71x5, .f32⟩
  | 8 => ⟨S_, .f32⟩
  | 9 => ⟨S4096x71, .f32⟩
  | 10 => ⟨S4096x71x1, .f32⟩
  | 11 => ⟨S4096x71x1, .f32⟩
  | 12 => ⟨S_, .f32⟩
  | 13 => ⟨S4096x71x1, .f32⟩
  | 14 => ⟨S4096x71x1, .i1⟩
  | 15 => ⟨S_, .f32⟩
  | 16 => ⟨S4096x71x1, .f32⟩
  | 17 => ⟨S4096x71x1, .f32⟩
  | 18 => ⟨S_, .f32⟩
  | 19 => ⟨S4096x71x1, .f32⟩
  | 20 => ⟨S4096x71x1, .f32⟩
  | 21 => ⟨S_, .f32⟩
  | 22 => ⟨S_, .f32⟩
  | 23 => ⟨S4096x71x1, .f32⟩
  | 24 => ⟨S4096x71x1, .f32⟩
  | 25 => ⟨S4096x71x5, .f32⟩
  | 26 => ⟨S4096x71x5, .f32⟩
  | 27 => ⟨S4096x71x1, .i32⟩
  | 28 => ⟨S4096x71, .i32⟩
  | 29 => ⟨S_, .i32⟩
  | 30 => ⟨S4096x71, .i32⟩
  | 31 => ⟨S4096x71, .i1⟩
  | 32 => ⟨S_, .i32⟩
  | 33 => ⟨S4096x71, .i32⟩
  | 34 => ⟨S4096x71, .i32⟩
  | 35 => ⟨S4096x71, .i32⟩
  | 36 => ⟨S4096x71x1, .i32⟩
  | 37 => ⟨S1, .i32⟩
  | 38 => ⟨S_, .i32⟩
  | 39 => ⟨S4096x71x1, .i32⟩
  | 40 => ⟨S4096x71x1, .i1⟩
  | 41 => ⟨S1x1x1, .i32⟩
  | 42 => ⟨S4096x71x1, .i32⟩
  | 43 => ⟨S4096x71x1, .i1⟩
  | 44 => ⟨S4096x71x1, .i1⟩
  | 45 => ⟨S_, .i1⟩
  | 46 => ⟨S4096x71, .i1⟩
  | 47 => ⟨S4096x71x10, .f32⟩
  | 48 => ⟨S4096x71x10, .i1⟩
  | 49 => ⟨S_, .f32⟩
  | 50 => ⟨S4096x71x10, .f32⟩
  | 51 => ⟨S4096x71x10, .f32⟩
  | 52 => ⟨S4096x71x10, .f32⟩
  | 53 => ⟨S_, .f32⟩
  | 54 => ⟨S4096x71, .f32⟩
  | 55 => ⟨S4096x71x1, .f32⟩
  | 56 => ⟨S4096x71x1, .f32⟩
  | 57 => ⟨S_, .f32⟩
  | 58 => ⟨S4096x71x1, .f32⟩
  | 59 => ⟨S4096x71x1, .i1⟩
  | 60 => ⟨S_, .f32⟩
  | 61 => ⟨S4096x71x1, .f32⟩
  | 62 => ⟨S4096x71x1, .f32⟩
  | 63 => ⟨S_, .f32⟩
  | 64 => ⟨S4096x71x1, .f32⟩
  | 65 => ⟨S4096x71x1, .f32⟩
  | 66 => ⟨S_, .f32⟩
  | 67 => ⟨S_, .f32⟩
  | 68 => ⟨S4096x71x1, .f32⟩
  | 69 => ⟨S4096x71x1, .f32⟩
  | 70 => ⟨S4096x71x10, .f32⟩
  | 71 => ⟨S4096x71x10, .f32⟩
  | 72 => ⟨S4096x71x1, .i32⟩
  | 73 => ⟨S4096x71, .i32⟩
  | 74 => ⟨S_, .i32⟩
  | 75 => ⟨S4096x71, .i32⟩
  | 76 => ⟨S4096x71, .i1⟩
  | 77 => ⟨S_, .i32⟩
  | 78 => ⟨S4096x71, .i32⟩
  | 79 => ⟨S4096x71, .i32⟩
  | 80 => ⟨S4096x71, .i32⟩
  | 81 => ⟨S4096x71x1, .i32⟩
  | 82 => ⟨S1, .i32⟩
  | 83 => ⟨S_, .i32⟩
  | 84 => ⟨S4096x71x1, .i32⟩
  | 85 => ⟨S4096x71x1, .i1⟩
  | 86 => ⟨S1x1x1, .i32⟩
  | 87 => ⟨S4096x71x1, .i32⟩
  | 88 => ⟨S4096x71x1, .i1⟩
  | 89 => ⟨S4096x71x1, .i1⟩
  | 90 => ⟨S_, .i1⟩
  | 91 => ⟨S4096x71, .i1⟩
  | 92 => ⟨S4096x71x2, .f32⟩
  | 93 => ⟨S4096x71x2, .i1⟩
  | 94 => ⟨S_, .f32⟩
  | 95 => ⟨S4096x71x2, .f32⟩
  | 96 => ⟨S4096x71x2, .f32⟩
  | 97 => ⟨S4096x71x2, .f32⟩
  | 98 => ⟨S_, .f32⟩
  | 99 => ⟨S4096x71, .f32⟩
  | 100 => ⟨S4096x71x1, .f32⟩
  | 101 => ⟨S4096x71x1, .f32⟩
  | 102 => ⟨S_, .f32⟩
  | 103 => ⟨S4096x71x1, .f32⟩
  | 104 => ⟨S4096x71x1, .i1⟩
  | 105 => ⟨S_, .f32⟩
  | 106 => ⟨S4096x71x1, .f32⟩
  | 107 => ⟨S4096x71x1, .f32⟩
  | 108 => ⟨S_, .f32⟩
  | 109 => ⟨S4096x71x1, .f32⟩
  | 110 => ⟨S4096x71x1, .f32⟩
  | 111 => ⟨S_, .f32⟩
  | 112 => ⟨S_, .f32⟩
  | 113 => ⟨S4096x71x1, .f32⟩
  | 114 => ⟨S4096x71x1, .f32⟩
  | 115 => ⟨S4096x71x2, .f32⟩
  | 116 => ⟨S4096x71x2, .f32⟩
  | 117 => ⟨S4096x71x1, .i32⟩
  | 118 => ⟨S4096x71, .i32⟩
  | 119 => ⟨S_, .i32⟩
  | 120 => ⟨S4096x71, .i32⟩
  | 121 => ⟨S4096x71, .i1⟩
  | 122 => ⟨S_, .i32⟩
  | 123 => ⟨S4096x71, .i32⟩
  | 124 => ⟨S4096x71, .i32⟩
  | 125 => ⟨S4096x71, .i32⟩
  | 126 => ⟨S4096x71x1, .i32⟩
  | 127 => ⟨S1, .i32⟩
  | _ => ⟨S4096x71x4, .f32⟩

abbrev hbmTy0_3 (i : Nat) : BufTy := match i % 128 with
  | 0 => ⟨S_, .i32⟩
  | 1 => ⟨S4096x71x1, .i32⟩
  | 2 => ⟨S4096x71x1, .i1⟩
  | 3 => ⟨S1x1x1, .i32⟩
  | 4 => ⟨S4096x71x1, .i32⟩
  | 5 => ⟨S4096x71x1, .i1⟩
  | 6 => ⟨S4096x71x1, .i1⟩
  | 7 => ⟨S_, .i1⟩
  | 8 => ⟨S4096x71, .i1⟩
  | 9 => ⟨S4096x71x2, .f32⟩
  | 10 => ⟨S4096x71x2, .i1⟩
  | 11 => ⟨S_, .f32⟩
  | 12 => ⟨S4096x71x2, .f32⟩
  | 13 => ⟨S4096x71x2, .f32⟩
  | 14 => ⟨S4096x71x2, .f32⟩
  | 15 => ⟨S_, .f32⟩
  | 16 => ⟨S4096x71, .f32⟩
  | 17 => ⟨S4096x71x1, .f32⟩
  | 18 => ⟨S4096x71x1, .f32⟩
  | 19 => ⟨S_, .f32⟩
  | 20 => ⟨S4096x71x1, .f32⟩
  | 21 => ⟨S4096x71x1, .i1⟩
  | 22 => ⟨S_, .f32⟩
  | 23 => ⟨S4096x71x1, .f32⟩
  | 24 => ⟨S4096x71x1, .f32⟩
  | 25 => ⟨S_, .f32⟩
  | 26 => ⟨S4096x71x1, .f32⟩
  | 27 => ⟨S4096x71x1, .f32⟩
  | 28 => ⟨S_, .f32⟩
  | 29 => ⟨S_, .f32⟩
  | 30 => ⟨S4096x71x1, .f32⟩
  | 31 => ⟨S4096x71x1, .f32⟩
  | 32 => ⟨S4096x71x2, .f32⟩
  | 33 => ⟨S4096x71x2, .f32⟩
  | 34 => ⟨S4096x71x1, .i32⟩
  | 35 => ⟨S4096x71, .i32⟩
  | 36 => ⟨S_, .i32⟩
  | 37 => ⟨S4096x71, .i32⟩
  | 38 => ⟨S4096x71, .i1⟩
  | 39 => ⟨S_, .i32⟩
  | 40 => ⟨S4096x71, .i32⟩
  | 41 => ⟨S4096x71, .i32⟩
  | 42 => ⟨S4096x71, .i32⟩
  | 43 => ⟨S4096x71x1, .i32⟩
  | 44 => ⟨S1, .i32⟩
  | 45 => ⟨S_, .i32⟩
  | 46 => ⟨S4096x71x1, .i32⟩
  | 47 => ⟨S4096x71x1, .i1⟩
  | 48 => ⟨S1x1x1, .i32⟩
  | 49 => ⟨S4096x71x1, .i32⟩
  | 50 => ⟨S4096x71x1, .i1⟩
  | 51 => ⟨S4096x71x1, .i1⟩
  | 52 => ⟨S_, .i1⟩
  | 53 => ⟨S4096x71, .i1⟩
  | 54 => ⟨S4096x71x3, .f32⟩
  | 55 => ⟨S4096x71x3, .i1⟩
  | 56 => ⟨S_, .f32⟩
  | 57 => ⟨S4096x71x3, .f32⟩
  | 58 => ⟨S4096x71x3, .f32⟩
  | 59 => ⟨S4096x71x3, .f32⟩
  | 60 => ⟨S_, .f32⟩
  | 61 => ⟨S4096x71, .f32⟩
  | 62 => ⟨S4096x71x1, .f32⟩
  | 63 => ⟨S4096x71x1, .f32⟩
  | 64 => ⟨S_, .f32⟩
  | 65 => ⟨S4096x71x1, .f32⟩
  | 66 => ⟨S4096x71x1, .i1⟩
  | 67 => ⟨S_, .f32⟩
  | 68 => ⟨S4096x71x1, .f32⟩
  | 69 => ⟨S4096x71x1, .f32⟩
  | 70 => ⟨S_, .f32⟩
  | 71 => ⟨S4096x71x1, .f32⟩
  | 72 => ⟨S4096x71x1, .f32⟩
  | 73 => ⟨S_, .f32⟩
  | 74 => ⟨S_, .f32⟩
  | 75 => ⟨S4096x71x1, .f32⟩
  | 76 => ⟨S4096x71x1, .f32⟩
  | 77 => ⟨S4096x71x3, .f32⟩
  | 78 => ⟨S4096x71x3, .f32⟩
  | 79 => ⟨S4096x71x50, .f32⟩
  | 80 => ⟨S4096x56x2, .f32⟩
  | 81 => ⟨S4096x56x2, .f32⟩
  | 82 => ⟨S4096x1x6, .f32⟩
  | 83 => ⟨S4096x56x6, .f32⟩
  | 84 => ⟨S4096x56x2, .i32⟩
  | 85 => ⟨S4096x56x2, .f32⟩
  | 86 => ⟨S4096x56x2, .i32⟩
  | 87 => ⟨S4096x56x2, .f32⟩
  | 88 => ⟨S4096x56x50, .f32⟩
  | 89 => ⟨S4096x56x64, .f32⟩
  | 90 => ⟨S15x15, .i32⟩
  | 91 => ⟨S15x15, .i32⟩
  | 92 => ⟨S_, .i32⟩
  | 93 => ⟨S15x15, .i32⟩
  | 94 => ⟨S15x15, .i32⟩
  | 95 => ⟨S15x15, .i1⟩
  | 96 => ⟨S15x15, .f32⟩
  | 97 => ⟨S1x15x15, .f32⟩
  | 98 => ⟨S4096x15x15, .f32⟩
  | 99 => ⟨S4096x15x2, .f32⟩
  | 100 => ⟨S4096x15x1, .f32⟩
  | 101 => ⟨S4096x1x6, .f32⟩
  | 102 => ⟨S4096x15x6, .f32⟩
  | 103 => ⟨S4096x15x50, .f32⟩
  | 104 => ⟨S4096x15x2, .i32⟩
  | 105 => ⟨S4096x15x2, .f32⟩
  | 106 => ⟨S4096x15x2, .i32⟩
  | 107 => ⟨S4096x15x2, .f32⟩
  | 108 => ⟨S4096x15x78, .f32⟩
  | _ => ⟨S4096x71x4, .f32⟩

abbrev hbmTy (i : Nat) : BufTy := match i / 128 with
  | 0 => hbmTy0_0 i
  | 1 => hbmTy0_1 i
  | 2 => hbmTy0_2 i
  | 3 => hbmTy0_3 i
  | _ => ⟨S4096x71x4, .f32⟩

abbrev bufTy : (tb : Table) → Fin (tcTables nBuf tb) → BufTy
  | .hbm, ⟨i, _⟩ => hbmTy i
  | _, _ => ⟨S4096x71x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v2 : Ref sig .tc := ⟨.hbm, 37, rfl⟩
abbrev main_v3 : Ref sig .tc := ⟨.hbm, 38, rfl⟩
abbrev main_cst : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_0 : Ref sig .tc := ⟨.hbm, 43, rfl⟩
abbrev main_v7 : Ref sig .tc := ⟨.hbm, 44, rfl⟩
abbrev main_v8 : Ref sig .tc := ⟨.hbm, 45, rfl⟩
abbrev main_cst_1 : Ref sig .tc := ⟨.hbm, 46, rfl⟩
abbrev main_v9 : Ref sig .tc := ⟨.hbm, 47, rfl⟩
abbrev main_v10 : Ref sig .tc := ⟨.hbm, 48, rfl⟩
abbrev main_cst_2 : Ref sig .tc := ⟨.hbm, 49, rfl⟩
abbrev main_v11 : Ref sig .tc := ⟨.hbm, 50, rfl⟩
abbrev main_v12 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v18 : Ref sig .tc := ⟨.hbm, 82, rfl⟩
abbrev main_v19 : Ref sig .tc := ⟨.hbm, 83, rfl⟩
abbrev main_cst_4 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_cst_5 : Ref sig .tc := ⟨.hbm, 88, rfl⟩
abbrev main_v23 : Ref sig .tc := ⟨.hbm, 89, rfl⟩
abbrev main_v24 : Ref sig .tc := ⟨.hbm, 90, rfl⟩
abbrev main_cst_6 : Ref sig .tc := ⟨.hbm, 91, rfl⟩
abbrev main_v25 : Ref sig .tc := ⟨.hbm, 92, rfl⟩
abbrev main_v26 : Ref sig .tc := ⟨.hbm, 93, rfl⟩
abbrev main_cst_7 : Ref sig .tc := ⟨.hbm, 94, rfl⟩
abbrev main_v27 : Ref sig .tc := ⟨.hbm, 95, rfl⟩
abbrev main_v28 : Ref sig .tc := ⟨.hbm, 96, rfl⟩
abbrev main_cst_8 : Ref sig .tc := ⟨.hbm, 97, rfl⟩
abbrev main_call3_v0 : Ref sig .tc := ⟨.hbm, 98, rfl⟩
abbrev main_call3_v1 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_cst : Ref sig .tc := ⟨.hbm, 125, rfl⟩
abbrev main_call4_v15 : Ref sig .tc := ⟨.hbm, 126, rfl⟩
abbrev main_v34 : Ref sig .tc := ⟨.hbm, 127, rfl⟩
abbrev main_v35 : Ref sig .tc := ⟨.hbm, 128, rfl⟩
abbrev main_cst_9 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_cst_10 : Ref sig .tc := ⟨.hbm, 133, rfl⟩
abbrev main_v39 : Ref sig .tc := ⟨.hbm, 134, rfl⟩
abbrev main_v40 : Ref sig .tc := ⟨.hbm, 135, rfl⟩
abbrev main_cst_11 : Ref sig .tc := ⟨.hbm, 136, rfl⟩
abbrev main_v41 : Ref sig .tc := ⟨.hbm, 137, rfl⟩
abbrev main_v42 : Ref sig .tc := ⟨.hbm, 138, rfl⟩
abbrev main_cst_12 : Ref sig .tc := ⟨.hbm, 139, rfl⟩
abbrev main_v43 : Ref sig .tc := ⟨.hbm, 140, rfl⟩
abbrev main_v44 : Ref sig .tc := ⟨.hbm, 141, rfl⟩
abbrev main_cst_13 : Ref sig .tc := ⟨.hbm, 142, rfl⟩
abbrev main_call5_v0 : Ref sig .tc := ⟨.hbm, 143, rfl⟩
abbrev main_call5_v1 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_call6_c : Ref sig .tc := ⟨.hbm, 150, rfl⟩
abbrev main_call6_v0 : Ref sig .tc := ⟨.hbm, 151, rfl⟩
abbrev main_call6_v1 : Ref sig .tc := ⟨.hbm, 152, rfl⟩
abbrev main_call6_c_0 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_c_1 : Ref sig .tc := ⟨.hbm, 158, rfl⟩
abbrev main_call6_c_2 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_call6_c_3 : Ref sig .tc := ⟨.hbm, 166, rfl⟩
abbrev main_call6_v12 : Ref sig .tc := ⟨.hbm, 167, rfl⟩
abbrev main_call6_v13 : Ref sig .tc := ⟨.hbm, 168, rfl⟩
abbrev main_call6_v14 : Ref sig .tc := ⟨.hbm, 169, rfl⟩
abbrev main_call6_cst : Ref sig .tc := ⟨.hbm, 170, rfl⟩
abbrev main_call6_v15 : Ref sig .tc := ⟨.hbm, 171, rfl⟩
abbrev main_v50 : Ref sig .tc := ⟨.hbm, 172, rfl⟩
abbrev main_v51 : Ref sig .tc := ⟨.hbm, 173, rfl⟩
abbrev main_cst_14 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_cst_15 : Ref sig .tc := ⟨.hbm, 178, rfl⟩
abbrev main_v55 : Ref sig .tc := ⟨.hbm, 179, rfl⟩
abbrev main_v56 : Ref sig .tc := ⟨.hbm, 180, rfl⟩
abbrev main_cst_16 : Ref sig .tc := ⟨.hbm, 181, rfl⟩
abbrev main_v57 : Ref sig .tc := ⟨.hbm, 182, rfl⟩
abbrev main_v58 : Ref sig .tc := ⟨.hbm, 183, rfl⟩
abbrev main_cst_17 : Ref sig .tc := ⟨.hbm, 184, rfl⟩
abbrev main_v59 : Ref sig .tc := ⟨.hbm, 185, rfl⟩
abbrev main_v60 : Ref sig .tc := ⟨.hbm, 186, rfl⟩
abbrev main_cst_18 : Ref sig .tc := ⟨.hbm, 187, rfl⟩
abbrev main_call7_v0 : Ref sig .tc := ⟨.hbm, 188, rfl⟩
abbrev main_call7_v1 : Ref sig .tc := ⟨.hbm, 189, rfl⟩
abbrev main_v61 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_call8_c : Ref sig .tc := ⟨.hbm, 195, rfl⟩
abbrev main_call8_v0 : Ref sig .tc := ⟨.hbm, 196, rfl⟩
abbrev main_call8_v1 : Ref sig .tc := ⟨.hbm, 197, rfl⟩
abbrev main_call8_c_0 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_call8_v5 : Ref sig .tc := ⟨.hbm, 202, rfl⟩
abbrev main_call8_c_1 : Ref sig .tc := ⟨.hbm, 203, rfl⟩
abbrev main_call8_c_2 : Ref sig .tc := ⟨.hbm, 204, rfl⟩
abbrev main_call8_v6 : Ref sig .tc := ⟨.hbm, 205, rfl⟩
abbrev main_call8_v7 : Ref sig .tc := ⟨.hbm, 206, rfl⟩
abbrev main_call8_v8 : Ref sig .tc := ⟨.hbm, 207, rfl⟩
abbrev main_call8_v9 : Ref sig .tc := ⟨.hbm, 208, rfl⟩
abbrev main_call8_v10 : Ref sig .tc := ⟨.hbm, 209, rfl⟩
abbrev main_call8_v11 : Ref sig .tc := ⟨.hbm, 210, rfl⟩
abbrev main_call8_c_3 : Ref sig .tc := ⟨.hbm, 211, rfl⟩
abbrev main_call8_v12 : Ref sig .tc := ⟨.hbm, 212, rfl⟩
abbrev main_call8_v13 : Ref sig .tc := ⟨.hbm, 213, rfl⟩
abbrev main_call8_v14 : Ref sig .tc := ⟨.hbm, 214, rfl⟩
abbrev main_call8_cst : Ref sig .tc := ⟨.hbm, 215, rfl⟩
abbrev main_call8_v15 : Ref sig .tc := ⟨.hbm, 216, rfl⟩
abbrev main_v66 : Ref sig .tc := ⟨.hbm, 217, rfl⟩
abbrev main_v67 : Ref sig .tc := ⟨.hbm, 218, rfl⟩
abbrev main_cst_19 : Ref sig .tc := ⟨.hbm, 219, rfl⟩
abbrev main_v68 : Ref sig .tc := ⟨.hbm, 220, rfl⟩
abbrev main_v69 : Ref sig .tc := ⟨.hbm, 221, rfl⟩
abbrev main_v70 : Ref sig .tc := ⟨.hbm, 222, rfl⟩
abbrev main_cst_20 : Ref sig .tc := ⟨.hbm, 223, rfl⟩
abbrev main_v71 : Ref sig .tc := ⟨.hbm, 224, rfl⟩
abbrev main_v72 : Ref sig .tc := ⟨.hbm, 225, rfl⟩
abbrev main_cst_21 : Ref sig .tc := ⟨.hbm, 226, rfl⟩
abbrev main_v73 : Ref sig .tc := ⟨.hbm, 227, rfl⟩
abbrev main_v74 : Ref sig .tc := ⟨.hbm, 228, rfl⟩
abbrev main_cst_22 : Ref sig .tc := ⟨.hbm, 229, rfl⟩
abbrev main_v75 : Ref sig .tc := ⟨.hbm, 230, rfl⟩
abbrev main_v76 : Ref sig .tc := ⟨.hbm, 231, rfl⟩
abbrev main_cst_23 : Ref sig .tc := ⟨.hbm, 232, rfl⟩
abbrev main_call9_v0 : Ref sig .tc := ⟨.hbm, 233, rfl⟩
abbrev main_call9_v1 : Ref sig .tc := ⟨.hbm, 234, rfl⟩
abbrev main_v77 : Ref sig .tc := ⟨.hbm, 235, rfl⟩
abbrev main_v78 : Ref sig .tc := ⟨.hbm, 236, rfl⟩
abbrev main_v79 : Ref sig .tc := ⟨.hbm, 237, rfl⟩
abbrev main_v80 : Ref sig .tc := ⟨.hbm, 238, rfl⟩
abbrev main_v81 : Ref sig .tc := ⟨.hbm, 239, rfl⟩
abbrev main_call10_c : Ref sig .tc := ⟨.hbm, 240, rfl⟩
abbrev main_call10_v0 : Ref sig .tc := ⟨.hbm, 241, rfl⟩
abbrev main_call10_v1 : Ref sig .tc := ⟨.hbm, 242, rfl⟩
abbrev main_call10_c_0 : Ref sig .tc := ⟨.hbm, 243, rfl⟩
abbrev main_call10_v2 : Ref sig .tc := ⟨.hbm, 244, rfl⟩
abbrev main_call10_v3 : Ref sig .tc := ⟨.hbm, 245, rfl⟩
abbrev main_call10_v4 : Ref sig .tc := ⟨.hbm, 246, rfl⟩
abbrev main_call10_v5 : Ref sig .tc := ⟨.hbm, 247, rfl⟩
abbrev main_call10_c_1 : Ref sig .tc := ⟨.hbm, 248, rfl⟩
abbrev main_call10_c_2 : Ref sig .tc := ⟨.hbm, 249, rfl⟩
abbrev main_call10_v6 : Ref sig .tc := ⟨.hbm, 250, rfl⟩
abbrev main_call10_v7 : Ref sig .tc := ⟨.hbm, 251, rfl⟩
abbrev main_call10_v8 : Ref sig .tc := ⟨.hbm, 252, rfl⟩
abbrev main_call10_v9 : Ref sig .tc := ⟨.hbm, 253, rfl⟩
abbrev main_call10_v10 : Ref sig .tc := ⟨.hbm, 254, rfl⟩
abbrev main_call10_v11 : Ref sig .tc := ⟨.hbm, 255, rfl⟩
abbrev main_call10_c_3 : Ref sig .tc := ⟨.hbm, 256, rfl⟩
abbrev main_call10_v12 : Ref sig .tc := ⟨.hbm, 257, rfl⟩
abbrev main_call10_v13 : Ref sig .tc := ⟨.hbm, 258, rfl⟩
abbrev main_call10_v14 : Ref sig .tc := ⟨.hbm, 259, rfl⟩
abbrev main_call10_cst : Ref sig .tc := ⟨.hbm, 260, rfl⟩
abbrev main_call10_v15 : Ref sig .tc := ⟨.hbm, 261, rfl⟩
abbrev main_v82 : Ref sig .tc := ⟨.hbm, 262, rfl⟩
abbrev main_v83 : Ref sig .tc := ⟨.hbm, 263, rfl⟩
abbrev main_cst_24 : Ref sig .tc := ⟨.hbm, 264, rfl⟩
abbrev main_v84 : Ref sig .tc := ⟨.hbm, 265, rfl⟩
abbrev main_v85 : Ref sig .tc := ⟨.hbm, 266, rfl⟩
abbrev main_v86 : Ref sig .tc := ⟨.hbm, 267, rfl⟩
abbrev main_cst_25 : Ref sig .tc := ⟨.hbm, 268, rfl⟩
abbrev main_v87 : Ref sig .tc := ⟨.hbm, 269, rfl⟩
abbrev main_v88 : Ref sig .tc := ⟨.hbm, 270, rfl⟩
abbrev main_cst_26 : Ref sig .tc := ⟨.hbm, 271, rfl⟩
abbrev main_v89 : Ref sig .tc := ⟨.hbm, 272, rfl⟩
abbrev main_v90 : Ref sig .tc := ⟨.hbm, 273, rfl⟩
abbrev main_cst_27 : Ref sig .tc := ⟨.hbm, 274, rfl⟩
abbrev main_v91 : Ref sig .tc := ⟨.hbm, 275, rfl⟩
abbrev main_v92 : Ref sig .tc := ⟨.hbm, 276, rfl⟩
abbrev main_cst_28 : Ref sig .tc := ⟨.hbm, 277, rfl⟩
abbrev main_call11_v0 : Ref sig .tc := ⟨.hbm, 278, rfl⟩
abbrev main_call11_v1 : Ref sig .tc := ⟨.hbm, 279, rfl⟩
abbrev main_v93 : Ref sig .tc := ⟨.hbm, 280, rfl⟩
abbrev main_v94 : Ref sig .tc := ⟨.hbm, 281, rfl⟩
abbrev main_v95 : Ref sig .tc := ⟨.hbm, 282, rfl⟩
abbrev main_v96 : Ref sig .tc := ⟨.hbm, 283, rfl⟩
abbrev main_v97 : Ref sig .tc := ⟨.hbm, 284, rfl⟩
abbrev main_call12_c : Ref sig .tc := ⟨.hbm, 285, rfl⟩
abbrev main_call12_v0 : Ref sig .tc := ⟨.hbm, 286, rfl⟩
abbrev main_call12_v1 : Ref sig .tc := ⟨.hbm, 287, rfl⟩
abbrev main_call12_c_0 : Ref sig .tc := ⟨.hbm, 288, rfl⟩
abbrev main_call12_v2 : Ref sig .tc := ⟨.hbm, 289, rfl⟩
abbrev main_call12_v3 : Ref sig .tc := ⟨.hbm, 290, rfl⟩
abbrev main_call12_v4 : Ref sig .tc := ⟨.hbm, 291, rfl⟩
abbrev main_call12_v5 : Ref sig .tc := ⟨.hbm, 292, rfl⟩
abbrev main_call12_c_1 : Ref sig .tc := ⟨.hbm, 293, rfl⟩
abbrev main_call12_c_2 : Ref sig .tc := ⟨.hbm, 294, rfl⟩
abbrev main_call12_v6 : Ref sig .tc := ⟨.hbm, 295, rfl⟩
abbrev main_call12_v7 : Ref sig .tc := ⟨.hbm, 296, rfl⟩
abbrev main_call12_v8 : Ref sig .tc := ⟨.hbm, 297, rfl⟩
abbrev main_call12_v9 : Ref sig .tc := ⟨.hbm, 298, rfl⟩
abbrev main_call12_v10 : Ref sig .tc := ⟨.hbm, 299, rfl⟩
abbrev main_call12_v11 : Ref sig .tc := ⟨.hbm, 300, rfl⟩
abbrev main_call12_c_3 : Ref sig .tc := ⟨.hbm, 301, rfl⟩
abbrev main_call12_v12 : Ref sig .tc := ⟨.hbm, 302, rfl⟩
abbrev main_call12_v13 : Ref sig .tc := ⟨.hbm, 303, rfl⟩
abbrev main_call12_v14 : Ref sig .tc := ⟨.hbm, 304, rfl⟩
abbrev main_call12_cst : Ref sig .tc := ⟨.hbm, 305, rfl⟩
abbrev main_call12_v15 : Ref sig .tc := ⟨.hbm, 306, rfl⟩
abbrev main_v98 : Ref sig .tc := ⟨.hbm, 307, rfl⟩
abbrev main_v99 : Ref sig .tc := ⟨.hbm, 308, rfl⟩
abbrev main_cst_29 : Ref sig .tc := ⟨.hbm, 309, rfl⟩
abbrev main_v100 : Ref sig .tc := ⟨.hbm, 310, rfl⟩
abbrev main_v101 : Ref sig .tc := ⟨.hbm, 311, rfl⟩
abbrev main_v102 : Ref sig .tc := ⟨.hbm, 312, rfl⟩
abbrev main_cst_30 : Ref sig .tc := ⟨.hbm, 313, rfl⟩
abbrev main_v103 : Ref sig .tc := ⟨.hbm, 314, rfl⟩
abbrev main_v104 : Ref sig .tc := ⟨.hbm, 315, rfl⟩
abbrev main_cst_31 : Ref sig .tc := ⟨.hbm, 316, rfl⟩
abbrev main_v105 : Ref sig .tc := ⟨.hbm, 317, rfl⟩
abbrev main_v106 : Ref sig .tc := ⟨.hbm, 318, rfl⟩
abbrev main_cst_32 : Ref sig .tc := ⟨.hbm, 319, rfl⟩
abbrev main_v107 : Ref sig .tc := ⟨.hbm, 320, rfl⟩
abbrev main_v108 : Ref sig .tc := ⟨.hbm, 321, rfl⟩
abbrev main_cst_33 : Ref sig .tc := ⟨.hbm, 322, rfl⟩
abbrev main_call13_v0 : Ref sig .tc := ⟨.hbm, 323, rfl⟩
abbrev main_call13_v1 : Ref sig .tc := ⟨.hbm, 324, rfl⟩
abbrev main_v109 : Ref sig .tc := ⟨.hbm, 325, rfl⟩
abbrev main_v110 : Ref sig .tc := ⟨.hbm, 326, rfl⟩
abbrev main_v111 : Ref sig .tc := ⟨.hbm, 327, rfl⟩
abbrev main_v112 : Ref sig .tc := ⟨.hbm, 328, rfl⟩
abbrev main_v113 : Ref sig .tc := ⟨.hbm, 329, rfl⟩
abbrev main_call14_c : Ref sig .tc := ⟨.hbm, 330, rfl⟩
abbrev main_call14_v0 : Ref sig .tc := ⟨.hbm, 331, rfl⟩
abbrev main_call14_v1 : Ref sig .tc := ⟨.hbm, 332, rfl⟩
abbrev main_call14_c_0 : Ref sig .tc := ⟨.hbm, 333, rfl⟩
abbrev main_call14_v2 : Ref sig .tc := ⟨.hbm, 334, rfl⟩
abbrev main_call14_v3 : Ref sig .tc := ⟨.hbm, 335, rfl⟩
abbrev main_call14_v4 : Ref sig .tc := ⟨.hbm, 336, rfl⟩
abbrev main_call14_v5 : Ref sig .tc := ⟨.hbm, 337, rfl⟩
abbrev main_call14_c_1 : Ref sig .tc := ⟨.hbm, 338, rfl⟩
abbrev main_call14_c_2 : Ref sig .tc := ⟨.hbm, 339, rfl⟩
abbrev main_call14_v6 : Ref sig .tc := ⟨.hbm, 340, rfl⟩
abbrev main_call14_v7 : Ref sig .tc := ⟨.hbm, 341, rfl⟩
abbrev main_call14_v8 : Ref sig .tc := ⟨.hbm, 342, rfl⟩
abbrev main_call14_v9 : Ref sig .tc := ⟨.hbm, 343, rfl⟩
abbrev main_call14_v10 : Ref sig .tc := ⟨.hbm, 344, rfl⟩
abbrev main_call14_v11 : Ref sig .tc := ⟨.hbm, 345, rfl⟩
abbrev main_call14_c_3 : Ref sig .tc := ⟨.hbm, 346, rfl⟩
abbrev main_call14_v12 : Ref sig .tc := ⟨.hbm, 347, rfl⟩
abbrev main_call14_v13 : Ref sig .tc := ⟨.hbm, 348, rfl⟩
abbrev main_call14_v14 : Ref sig .tc := ⟨.hbm, 349, rfl⟩
abbrev main_call14_cst : Ref sig .tc := ⟨.hbm, 350, rfl⟩
abbrev main_call14_v15 : Ref sig .tc := ⟨.hbm, 351, rfl⟩
abbrev main_v114 : Ref sig .tc := ⟨.hbm, 352, rfl⟩
abbrev main_v115 : Ref sig .tc := ⟨.hbm, 353, rfl⟩
abbrev main_cst_34 : Ref sig .tc := ⟨.hbm, 354, rfl⟩
abbrev main_v116 : Ref sig .tc := ⟨.hbm, 355, rfl⟩
abbrev main_v117 : Ref sig .tc := ⟨.hbm, 356, rfl⟩
abbrev main_v118 : Ref sig .tc := ⟨.hbm, 357, rfl⟩
abbrev main_cst_35 : Ref sig .tc := ⟨.hbm, 358, rfl⟩
abbrev main_v119 : Ref sig .tc := ⟨.hbm, 359, rfl⟩
abbrev main_v120 : Ref sig .tc := ⟨.hbm, 360, rfl⟩
abbrev main_cst_36 : Ref sig .tc := ⟨.hbm, 361, rfl⟩
abbrev main_v121 : Ref sig .tc := ⟨.hbm, 362, rfl⟩
abbrev main_v122 : Ref sig .tc := ⟨.hbm, 363, rfl⟩
abbrev main_cst_37 : Ref sig .tc := ⟨.hbm, 364, rfl⟩
abbrev main_v123 : Ref sig .tc := ⟨.hbm, 365, rfl⟩
abbrev main_v124 : Ref sig .tc := ⟨.hbm, 366, rfl⟩
abbrev main_cst_38 : Ref sig .tc := ⟨.hbm, 367, rfl⟩
abbrev main_call15_v0 : Ref sig .tc := ⟨.hbm, 368, rfl⟩
abbrev main_call15_v1 : Ref sig .tc := ⟨.hbm, 369, rfl⟩
abbrev main_v125 : Ref sig .tc := ⟨.hbm, 370, rfl⟩
abbrev main_v126 : Ref sig .tc := ⟨.hbm, 371, rfl⟩
abbrev main_v127 : Ref sig .tc := ⟨.hbm, 372, rfl⟩
abbrev main_v128 : Ref sig .tc := ⟨.hbm, 373, rfl⟩
abbrev main_v129 : Ref sig .tc := ⟨.hbm, 374, rfl⟩
abbrev main_call16_c : Ref sig .tc := ⟨.hbm, 375, rfl⟩
abbrev main_call16_v0 : Ref sig .tc := ⟨.hbm, 376, rfl⟩
abbrev main_call16_v1 : Ref sig .tc := ⟨.hbm, 377, rfl⟩
abbrev main_call16_c_0 : Ref sig .tc := ⟨.hbm, 378, rfl⟩
abbrev main_call16_v2 : Ref sig .tc := ⟨.hbm, 379, rfl⟩
abbrev main_call16_v3 : Ref sig .tc := ⟨.hbm, 380, rfl⟩
abbrev main_call16_v4 : Ref sig .tc := ⟨.hbm, 381, rfl⟩
abbrev main_call16_v5 : Ref sig .tc := ⟨.hbm, 382, rfl⟩
abbrev main_call16_c_1 : Ref sig .tc := ⟨.hbm, 383, rfl⟩
abbrev main_call16_c_2 : Ref sig .tc := ⟨.hbm, 384, rfl⟩
abbrev main_call16_v6 : Ref sig .tc := ⟨.hbm, 385, rfl⟩
abbrev main_call16_v7 : Ref sig .tc := ⟨.hbm, 386, rfl⟩
abbrev main_call16_v8 : Ref sig .tc := ⟨.hbm, 387, rfl⟩
abbrev main_call16_v9 : Ref sig .tc := ⟨.hbm, 388, rfl⟩
abbrev main_call16_v10 : Ref sig .tc := ⟨.hbm, 389, rfl⟩
abbrev main_call16_v11 : Ref sig .tc := ⟨.hbm, 390, rfl⟩
abbrev main_call16_c_3 : Ref sig .tc := ⟨.hbm, 391, rfl⟩
abbrev main_call16_v12 : Ref sig .tc := ⟨.hbm, 392, rfl⟩
abbrev main_call16_v13 : Ref sig .tc := ⟨.hbm, 393, rfl⟩
abbrev main_call16_v14 : Ref sig .tc := ⟨.hbm, 394, rfl⟩
abbrev main_call16_cst : Ref sig .tc := ⟨.hbm, 395, rfl⟩
abbrev main_call16_v15 : Ref sig .tc := ⟨.hbm, 396, rfl⟩
abbrev main_v130 : Ref sig .tc := ⟨.hbm, 397, rfl⟩
abbrev main_v131 : Ref sig .tc := ⟨.hbm, 398, rfl⟩
abbrev main_cst_39 : Ref sig .tc := ⟨.hbm, 399, rfl⟩
abbrev main_v132 : Ref sig .tc := ⟨.hbm, 400, rfl⟩
abbrev main_v133 : Ref sig .tc := ⟨.hbm, 401, rfl⟩
abbrev main_v134 : Ref sig .tc := ⟨.hbm, 402, rfl⟩
abbrev main_cst_40 : Ref sig .tc := ⟨.hbm, 403, rfl⟩
abbrev main_v135 : Ref sig .tc := ⟨.hbm, 404, rfl⟩
abbrev main_v136 : Ref sig .tc := ⟨.hbm, 405, rfl⟩
abbrev main_cst_41 : Ref sig .tc := ⟨.hbm, 406, rfl⟩
abbrev main_v137 : Ref sig .tc := ⟨.hbm, 407, rfl⟩
abbrev main_v138 : Ref sig .tc := ⟨.hbm, 408, rfl⟩
abbrev main_cst_42 : Ref sig .tc := ⟨.hbm, 409, rfl⟩
abbrev main_v139 : Ref sig .tc := ⟨.hbm, 410, rfl⟩
abbrev main_v140 : Ref sig .tc := ⟨.hbm, 411, rfl⟩
abbrev main_cst_43 : Ref sig .tc := ⟨.hbm, 412, rfl⟩
abbrev main_call17_v0 : Ref sig .tc := ⟨.hbm, 413, rfl⟩
abbrev main_call17_v1 : Ref sig .tc := ⟨.hbm, 414, rfl⟩
abbrev main_v141 : Ref sig .tc := ⟨.hbm, 415, rfl⟩
abbrev main_v142 : Ref sig .tc := ⟨.hbm, 416, rfl⟩
abbrev main_v143 : Ref sig .tc := ⟨.hbm, 417, rfl⟩
abbrev main_v144 : Ref sig .tc := ⟨.hbm, 418, rfl⟩
abbrev main_v145 : Ref sig .tc := ⟨.hbm, 419, rfl⟩
abbrev main_call18_c : Ref sig .tc := ⟨.hbm, 420, rfl⟩
abbrev main_call18_v0 : Ref sig .tc := ⟨.hbm, 421, rfl⟩
abbrev main_call18_v1 : Ref sig .tc := ⟨.hbm, 422, rfl⟩
abbrev main_call18_c_0 : Ref sig .tc := ⟨.hbm, 423, rfl⟩
abbrev main_call18_v2 : Ref sig .tc := ⟨.hbm, 424, rfl⟩
abbrev main_call18_v3 : Ref sig .tc := ⟨.hbm, 425, rfl⟩
abbrev main_call18_v4 : Ref sig .tc := ⟨.hbm, 426, rfl⟩
abbrev main_call18_v5 : Ref sig .tc := ⟨.hbm, 427, rfl⟩
abbrev main_call18_c_1 : Ref sig .tc := ⟨.hbm, 428, rfl⟩
abbrev main_call18_c_2 : Ref sig .tc := ⟨.hbm, 429, rfl⟩
abbrev main_call18_v6 : Ref sig .tc := ⟨.hbm, 430, rfl⟩
abbrev main_call18_v7 : Ref sig .tc := ⟨.hbm, 431, rfl⟩
abbrev main_call18_v8 : Ref sig .tc := ⟨.hbm, 432, rfl⟩
abbrev main_call18_v9 : Ref sig .tc := ⟨.hbm, 433, rfl⟩
abbrev main_call18_v10 : Ref sig .tc := ⟨.hbm, 434, rfl⟩
abbrev main_call18_v11 : Ref sig .tc := ⟨.hbm, 435, rfl⟩
abbrev main_call18_c_3 : Ref sig .tc := ⟨.hbm, 436, rfl⟩
abbrev main_call18_v12 : Ref sig .tc := ⟨.hbm, 437, rfl⟩
abbrev main_call18_v13 : Ref sig .tc := ⟨.hbm, 438, rfl⟩
abbrev main_call18_v14 : Ref sig .tc := ⟨.hbm, 439, rfl⟩
abbrev main_call18_cst : Ref sig .tc := ⟨.hbm, 440, rfl⟩
abbrev main_call18_v15 : Ref sig .tc := ⟨.hbm, 441, rfl⟩
abbrev main_v146 : Ref sig .tc := ⟨.hbm, 442, rfl⟩
abbrev main_v147 : Ref sig .tc := ⟨.hbm, 443, rfl⟩
abbrev main_cst_44 : Ref sig .tc := ⟨.hbm, 444, rfl⟩
abbrev main_v148 : Ref sig .tc := ⟨.hbm, 445, rfl⟩
abbrev main_v149 : Ref sig .tc := ⟨.hbm, 446, rfl⟩
abbrev main_v150 : Ref sig .tc := ⟨.hbm, 447, rfl⟩
abbrev main_cst_45 : Ref sig .tc := ⟨.hbm, 448, rfl⟩
abbrev main_v151 : Ref sig .tc := ⟨.hbm, 449, rfl⟩
abbrev main_v152 : Ref sig .tc := ⟨.hbm, 450, rfl⟩
abbrev main_cst_46 : Ref sig .tc := ⟨.hbm, 451, rfl⟩
abbrev main_v153 : Ref sig .tc := ⟨.hbm, 452, rfl⟩
abbrev main_v154 : Ref sig .tc := ⟨.hbm, 453, rfl⟩
abbrev main_cst_47 : Ref sig .tc := ⟨.hbm, 454, rfl⟩
abbrev main_v155 : Ref sig .tc := ⟨.hbm, 455, rfl⟩
abbrev main_v156 : Ref sig .tc := ⟨.hbm, 456, rfl⟩
abbrev main_cst_48 : Ref sig .tc := ⟨.hbm, 457, rfl⟩
abbrev main_call19_v0 : Ref sig .tc := ⟨.hbm, 458, rfl⟩
abbrev main_call19_v1 : Ref sig .tc := ⟨.hbm, 459, rfl⟩
abbrev main_v157 : Ref sig .tc := ⟨.hbm, 460, rfl⟩
abbrev main_v158 : Ref sig .tc := ⟨.hbm, 461, rfl⟩
abbrev main_v159 : Ref sig .tc := ⟨.hbm, 462, rfl⟩
abbrev main_v160 : Ref sig .tc := ⟨.hbm, 463, rfl⟩
abbrev main_v161 : Ref sig .tc := ⟨.hbm, 464, rfl⟩
abbrev main_v162 : Ref sig .tc := ⟨.hbm, 465, rfl⟩
abbrev main_v163 : Ref sig .tc := ⟨.hbm, 466, rfl⟩
abbrev main_v164 : Ref sig .tc := ⟨.hbm, 467, rfl⟩
abbrev main_v165 : Ref sig .tc := ⟨.hbm, 468, rfl⟩
abbrev main_v166 : Ref sig .tc := ⟨.hbm, 469, rfl⟩
abbrev main_v167 : Ref sig .tc := ⟨.hbm, 470, rfl⟩
abbrev main_v168 : Ref sig .tc := ⟨.hbm, 471, rfl⟩
abbrev main_v169 : Ref sig .tc := ⟨.hbm, 472, rfl⟩
abbrev main_v170 : Ref sig .tc := ⟨.hbm, 473, rfl⟩
abbrev main_v171 : Ref sig .tc := ⟨.hbm, 474, rfl⟩
abbrev main_v172 : Ref sig .tc := ⟨.hbm, 475, rfl⟩
abbrev main_c : Ref sig .tc := ⟨.hbm, 476, rfl⟩
abbrev main_v173 : Ref sig .tc := ⟨.hbm, 477, rfl⟩
abbrev main_v174 : Ref sig .tc := ⟨.hbm, 478, rfl⟩
abbrev main_v175 : Ref sig .tc := ⟨.hbm, 479, rfl⟩
abbrev main_v176 : Ref sig .tc := ⟨.hbm, 480, rfl⟩
abbrev main_v177 : Ref sig .tc := ⟨.hbm, 481, rfl⟩
abbrev main_v178 : Ref sig .tc := ⟨.hbm, 482, rfl⟩
abbrev main_v179 : Ref sig .tc := ⟨.hbm, 483, rfl⟩
abbrev main_v180 : Ref sig .tc := ⟨.hbm, 484, rfl⟩
abbrev main_v181 : Ref sig .tc := ⟨.hbm, 485, rfl⟩
abbrev main_v182 : Ref sig .tc := ⟨.hbm, 486, rfl⟩
abbrev main_v183 : Ref sig .tc := ⟨.hbm, 487, rfl⟩
abbrev main_v184 : Ref sig .tc := ⟨.hbm, 488, rfl⟩
abbrev main_v185 : Ref sig .tc := ⟨.hbm, 489, rfl⟩
abbrev main_v186 : Ref sig .tc := ⟨.hbm, 490, rfl⟩
abbrev main_v187 : Ref sig .tc := ⟨.hbm, 491, rfl⟩
abbrev main_v188 : Ref sig .tc := ⟨.hbm, 492, rfl⟩

abbrev nD : Nat := 1
abbrev τ : Topo := Topo.v7x

variable {F : FTy → Type} [FloatOps F]
-- ==== Proof.Spec.lean ====
/- The mathematics both programs compute, on extended reals and with no program in sight: a row of an embedding
   table scaled down to a largest norm (`nrow`), the fact that such a row is finite whatever the table holds
   (`nrow_real`), and the selection of one of three rows by an index as `w₀ + [i = 1]·(w₁ − w₀) + [i = 2]·(w₂ − w₀)`
   (`pick_zero`, `pick_one`, `pick_two`). -/
module

public import Idealize.ShloMosaic.Lib.Pointwise
public import Idealize.ShloMosaic.Lib.IdealHost

@[expose] public section

noncomputable section

namespace Cert.Proof

open Idealize.ShloMosaic

/-- The small constant added to a norm before dividing by it. -/
abbrev eps : EReal := Ideal.ofBits .f32 0x33D6BF95#32

theorem eps_real : ∃ e : ℝ, 0 < e ∧ eps = (e : EReal) := by
  refine ⟨14073749 * (2 : ℝ) ^ (-47 : ℤ), by positivity, ?_⟩
  simp [eps, Ideal.ofBits, Ideal.ieee]

/-- The factor for a row of norm `n`: `mn / (n + eps)` above the bound `mn`, else one. -/
def scl (mn n : EReal) : EReal := Scalar.select (Ideal.cmp .ogt n mn) (Ideal.div mn (n + eps)) 1

/-- Entry `c` of a row scaled down to norm `mn`. -/
def nrow {D : ℕ} (mn : EReal) (row : Fin D → EReal) (c : Fin D) : EReal :=
  row c * scl mn (Ideal.sqrt (∑ j, row j * row j))

theorem scl_real {mn s : ℝ} (hs : 0 ≤ s) : ∃ a : ℝ, scl mn (Ideal.sqrt s) = (a : EReal) := by
  obtain ⟨e, he, hE⟩ := eps_real
  have h1 : Ideal.sqrt (s : EReal) = ((Real.sqrt s : ℝ) : EReal) := by
    show (if s < 0 then (⊥ : EReal) else (Real.sqrt s : EReal)) = _
    rw [if_neg (not_lt.mpr hs)]
  have h0 := Real.sqrt_nonneg s
  unfold scl Scalar.select
  rw [h1, hE, ← EReal.coe_add]
  split
  · refine ⟨mn * (Real.sqrt s + e)⁻¹, ?_⟩
    unfold Ideal.div
    rw [if_neg (by rw [EReal.coe_eq_zero]; positivity), ← EReal.coe_inv, ← EReal.coe_mul]
  · exact ⟨1, rfl⟩

theorem scl_top {mn : ℝ} : scl mn ⊤ = 0 := by
  obtain ⟨e, he, hE⟩ := eps_real
  have h : Ideal.cmp .ogt ⊤ (mn : EReal) = 1#1 := by
    show BitVec.ofBool (decide ((mn : EReal) < ⊤)) = _
    rw [decide_eq_true (EReal.coe_lt_top mn)]; rfl
  unfold scl
  rw [h, hE, EReal.top_add_coe]
  show Ideal.div (mn : EReal) ⊤ = 0
  unfold Ideal.div
  rw [if_neg (by simp), EReal.inv_top, mul_zero]

theorem sq_nonneg' (x : EReal) : 0 ≤ x * x := by
  induction x with
  | bot => simp
  | top => simp
  | coe r => rw [← EReal.coe_mul]; exact_mod_cast mul_self_nonneg r

theorem sum_real {ι : Type} (s : Finset ι) (f : ι → ℝ) : ∑ j ∈ s, (f j : EReal) = ((∑ j ∈ s, f j : ℝ) : EReal) := by
  classical
  induction s using Finset.induction_on with
  | empty => rfl
  | insert a s ha ih => rw [Finset.sum_insert ha, Finset.sum_insert ha, ih, EReal.coe_add]

/-- Every entry of a scaled row is a real number: where the row holds an infinity its norm is infinite and its factor zero. -/
theorem nrow_real {D : ℕ} (mn : ℝ) (row : Fin D → EReal) (c : Fin D) : ∃ a : ℝ, nrow mn row c = (a : EReal) := by
  unfold nrow
  by_cases h : ∃ j, row j * row j = ⊤
  · obtain ⟨j, hj⟩ := h
    have hs : ∑ j, row j * row j = ⊤ := by
      refine top_le_iff.mp ?_
      rw [← hj]
      exact Finset.single_le_sum (f := fun j => row j * row j) (fun i _ => sq_nonneg' (row i)) (Finset.mem_univ j)
    rw [hs]
    show ∃ a : ℝ, row c * scl mn ⊤ = _
    rw [scl_top, mul_zero]
    exact ⟨0, rfl⟩
  · have hr : ∀ j, ∃ r : ℝ, row j = (r : EReal) := fun j => by
      generalize hx : row j = x
      induction x with
      | bot => exact absurd ⟨j, by rw [hx]; rfl⟩ h
      | top => exact absurd ⟨j, by rw [hx]; rfl⟩ h
      | coe r => exact ⟨r, rfl⟩
    choose r hr using hr
    have hs : ∑ j, row j * row j = ((∑ j, r j * r j : ℝ) : EReal) := by
      rw [← sum_real]
      exact Finset.sum_congr rfl fun j _ => by rw [hr, EReal.coe_mul]
    obtain ⟨a, ha⟩ := scl_real (mn := mn) (s := ∑ j, r j * r j) (Finset.sum_nonneg fun j _ => mul_self_nonneg _)
    rw [hs, ha, hr]
    exact ⟨r c * a, (EReal.coe_mul _ _).symm⟩

theorem pick_zero (w₀ w₁ w₂ : ℝ) : (0 : EReal) * ((w₁ : EReal) - w₀) + (0 * ((w₂ : EReal) - w₀) + 1 * (w₀ : EReal)) = w₀ := by
  rw [zero_mul, zero_mul, zero_add, zero_add, one_mul]

theorem pick_one (w₀ w₁ w₂ : ℝ) : (1 : EReal) * ((w₁ : EReal) - w₀) + (0 * ((w₂ : EReal) - w₀) + 1 * (w₀ : EReal)) = w₁ := by
  rw [zero_mul, zero_add, one_mul, one_mul, ← EReal.coe_sub, ← EReal.coe_add, sub_add_cancel]

theorem pick_two (w₀ w₁ w₂ : ℝ) : (0 : EReal) * ((w₁ : EReal) - w₀) + (1 * ((w₂ : EReal) - w₀) + 1 * (w₀ : EReal)) = w₂ := by
  rw [zero_mul, zero_add, one_mul, one_mul, ← EReal.coe_sub, ← EReal.coe_add, sub_add_cancel]

/-- The shape of a table of `N` rows of `D` entries. -/
abbrev tblS (N D : ℕ) : Shape := ⟨2, ![N, D]⟩

/-- Row `k` of a table of at least three rows, scaled down to norm `mn`. -/
def tblRow {N D : ℕ} (h : 3 ≤ N) (mn : BitVec 32) (T : (tblS N D).Idx → EReal) (k : Fin 3) : Fin D → EReal :=
  nrow (Ideal.ofBits .f32 mn) fun j => T (ix2 (k.castLE h) j)

/-- The ten embedding tables. -/
structure Tables where
  t0 : (tblS 337 8).Idx → EReal
  t1 : (tblS 33 8).Idx → EReal
  t2 : (tblS 5 2).Idx → EReal
  t3 : (tblS 17 5).Idx → EReal
  t4 : (tblS 54 5).Idx → EReal
  t5 : (tblS 22 5).Idx → EReal
  t6 : (tblS 31 10).Idx → EReal
  t7 : (tblS 6 2).Idx → EReal
  t8 : (tblS 3 2).Idx → EReal
  t9 : (tblS 7 3).Idx → EReal

/-- The ten scaled rows laid side by side, table `k` read in row `q k`. -/
def emb (T : Tables) (q : Fin 10 → Fin 3) (c : Fin 50) : EReal :=
  if h0 : c.val < 8 then tblRow (by decide) 0x41000000#32 T.t0 (q 0) ⟨c.val, h0⟩
  else if h1 : c.val - 8 < 8 then tblRow (by decide) 0x41000000#32 T.t1 (q 1) ⟨c.val - 8, h1⟩
  else if h2 : c.val - 8 - 8 < 2 then tblRow (by decide) 0x40000000#32 T.t2 (q 2) ⟨c.val - 8 - 8, h2⟩
  else if h3 : c.val - 8 - 8 - 2 < 5 then tblRow (by decide) 0x40A00000#32 T.t3 (q 3) ⟨c.val - 8 - 8 - 2, h3⟩
  else if h4 : c.val - 8 - 8 - 2 - 5 < 5 then tblRow (by decide) 0x40A00000#32 T.t4 (q 4) ⟨c.val - 8 - 8 - 2 - 5, h4⟩
  else if h5 : c.val - 8 - 8 - 2 - 5 - 5 < 5 then tblRow (by decide) 0x40A00000#32 T.t5 (q 5) ⟨c.val - 8 - 8 - 2 - 5 - 5, h5⟩
  else if h6 : c.val - 8 - 8 - 2 - 5 - 5 - 5 < 10 then tblRow (by decide) 0x41200000#32 T.t6 (q 6) ⟨c.val - 8 - 8 - 2 - 5 - 5 - 5, h6⟩
  else if h7 : c.val - 8 - 8 - 2 - 5 - 5 - 5 - 10 < 2 then tblRow (by decide) 0x40000000#32 T.t7 (q 7) ⟨c.val - 8 - 8 - 2 - 5 - 5 - 5 - 10, h7⟩
  else if h8 : c.val - 8 - 8 - 2 - 5 - 5 - 5 - 10 - 2 < 2 then tblRow (by decide) 0x40000000#32 T.t8 (q 8) ⟨c.val - 8 - 8 - 2 - 5 - 5 - 5 - 10 - 2, h8⟩
  else tblRow (by decide) 0x40400000#32 T.t9 (q 9) ⟨c.val - 8 - 8 - 2 - 5 - 5 - 5 - 10 - 2 - 2, by omega⟩

/-- The table that column `c` belongs to. -/
def own (c : ℕ) : Fin 10 :=
  if c < 8 then 0 else if c < 16 then 1 else if c < 18 then 2 else if c < 23 then 3 else if c < 28 then 4
  else if c < 33 then 5 else if c < 43 then 6 else if c < 45 then 7 else if c < 47 then 8 else 9

/-- The first column of each table. -/
def lo (k : ℕ) : ℕ := [0, 8, 16, 18, 23, 28, 33, 43, 45, 47, 50].getD k 0

/-- A column depends on the row number of its own table alone. -/
theorem emb_own (T : Tables) (q : Fin 10 → Fin 3) (c : Fin 50) : emb T q c = emb T (fun _ => q (own c)) c := by
  have ho : ∀ k : Fin 10, own c = k → q k = (fun _ : Fin 10 => q (own c)) k := fun k h => by rw [← h]
  have hc : ∀ (k : Fin 10), lo k ≤ c.val → c.val < lo (k.val + 1) → own c = k := (by decide +kernel :
    ∀ (c : Fin 50) (k : Fin 10), lo k ≤ c.val → c.val < lo (k.val + 1) → own c = k) c
  unfold emb
  refine dite_congr rfl (fun h => by rw [ho 0 (hc 0 (show 0 ≤ c.val by omega) (show c.val < 8 by omega))]) fun h0 => ?_
  refine dite_congr rfl (fun h => by rw [ho 1 (hc 1 (show 8 ≤ c.val by omega) (show c.val < 16 by omega))]) fun h1 => ?_
  refine dite_congr rfl (fun h => by rw [ho 2 (hc 2 (show 16 ≤ c.val by omega) (show c.val < 18 by omega))]) fun h2 => ?_
  refine dite_congr rfl (fun h => by rw [ho 3 (hc 3 (show 18 ≤ c.val by omega) (show c.val < 23 by omega))]) fun h3 => ?_
  refine dite_congr rfl (fun h => by rw [ho 4 (hc 4 (show 23 ≤ c.val by omega) (show c.val < 28 by omega))]) fun h4 => ?_
  refine dite_congr rfl (fun h => by rw [ho 5 (hc 5 (show 28 ≤ c.val by omega) (show c.val < 33 by omega))]) fun h5 => ?_
  refine dite_congr rfl (fun h => by rw [ho 6 (hc 6 (show 33 ≤ c.val by omega) (show c.val < 43 by omega))]) fun h6 => ?_
  refine dite_congr rfl (fun h => by rw [ho 7 (hc 7 (show 43 ≤ c.val by omega) (show c.val < 45 by omega))]) fun h7 => ?_
  refine dite_congr rfl (fun h => by rw [ho 8 (hc 8 (show 45 ≤ c.val by omega) (show c.val < 47 by omega))]) fun h8 => ?_
  rw [ho 9 (hc 9 (show 47 ≤ c.val by omega) c.isLt)]

theorem tblRow_real {N D : ℕ} (h : 3 ≤ N) {mn : BitVec 32} (hm : ∃ a : ℝ, Ideal.ofBits .f32 mn = a)
    (T : (tblS N D).Idx → EReal) (k : Fin 3) (c : Fin D) : ∃ a : ℝ, tblRow h mn T k c = a := by
  obtain ⟨m, hm⟩ := hm
  unfold tblRow
  rw [hm]
  exact nrow_real _ _ _

theorem bound_8 : ∃ a : ℝ, Ideal.ofBits .f32 0x41000000#32 = a := by
  simp [Ideal.ofBits, Ideal.ieee, -EReal.coe_mul]

theorem bound_2 : ∃ a : ℝ, Ideal.ofBits .f32 0x40000000#32 = a := by
  simp [Ideal.ofBits, Ideal.ieee, -EReal.coe_mul]

theorem bound_5 : ∃ a : ℝ, Ideal.ofBits .f32 0x40A00000#32 = a := by
  simp [Ideal.ofBits, Ideal.ieee, -EReal.coe_mul]

theorem bound_10 : ∃ a : ℝ, Ideal.ofBits .f32 0x41200000#32 = a := by
  simp [Ideal.ofBits, Ideal.ieee, -EReal.coe_mul]

theorem bound_3 : ∃ a : ℝ, Ideal.ofBits .f32 0x40400000#32 = a := by
  simp [Ideal.ofBits, Ideal.ieee, -EReal.coe_mul]

theorem dite_real {P : Prop} [Decidable P] {f : P → EReal} {g : ¬P → EReal} (hf : ∀ h, ∃ a : ℝ, f h = a)
    (hg : ∀ h, ∃ a : ℝ, g h = a) : ∃ a : ℝ, dite P f g = a := by
  split
  · exact hf _
  · exact hg _

/-- Every entry of the ten scaled rows is finite. -/
theorem emb_real (T : Tables) (q : Fin 10 → Fin 3) (c : Fin 50) : ∃ a : ℝ, emb T q c = a := by
  unfold emb
  refine dite_real (fun _ => tblRow_real _ bound_8 _ _ _) fun _ => ?_
  refine dite_real (fun _ => tblRow_real _ bound_8 _ _ _) fun _ => ?_
  refine dite_real (fun _ => tblRow_real _ bound_2 _ _ _) fun _ => ?_
  refine dite_real (fun _ => tblRow_real _ bound_5 _ _ _) fun _ => ?_
  refine dite_real (fun _ => tblRow_real _ bound_5 _ _ _) fun _ => ?_
  refine dite_real (fun _ => tblRow_real _ bound_5 _ _ _) fun _ => ?_
  refine dite_real (fun _ => tblRow_real _ bound_10 _ _ _) fun _ => ?_
  refine dite_real (fun _ => tblRow_real _ bound_2 _ _ _) fun _ => ?_
  refine dite_real (fun _ => tblRow_real _ bound_2 _ _ _) fun _ => ?_
  exact tblRow_real _ bound_3 _ _ _

/-- The row an index word selects. -/
def sel (w : BitVec 32) : Fin 3 := if w = 1#32 then 1 else if w = 2#32 then 2 else 0

/-- The shape of the columns over batch and time. -/
abbrev colS (n : ℕ) : Shape := ⟨3, ![4096, 71, n]⟩
/-- The shape of the columns over the batch. -/
abbrev batS : Shape := ⟨2, ![4096, 6]⟩

/-- Row numbers of the ten tables at one batch row and time. -/
def pickAt (XI : (colS 14).Idx → BitVec 32) (r : Fin 4096) (t : Fin 71) (k : Fin 10) : Fin 3 :=
  sel (XI (ix3 r t (k.natAdd 4)))

/-- Every index column holds a row number. -/
def InRange (XI : (colS 14).Idx → BitVec 32) : Prop :=
  ∀ (r : Fin 4096) (t : Fin 71) (k : Fin 10), XI (ix3 r t (k.natAdd 4)) = BitVec.ofNat 32 (pickAt XI r t k).val

/-- An integer as an extended real. -/
def toR (w : BitVec 32) : EReal := ((w.toInt : ℝ) : EReal)

/-- The encoder's input at batch row `r`, time `t`, column `c`. -/
def encAt (X : (colS 4).Idx → EReal) (XD : batS.Idx → EReal) (XI : (colS 14).Idx → BitVec 32) (T : Tables)
    (r : Fin 4096) (t : Fin 56) (c : Fin 64) : EReal :=
  if h : c.val < 4 then X (ix3 r (t.castLE (by decide)) ⟨c, h⟩)
  else if h1 : c.val < 10 then XD (ix2 r ⟨c - 4, by omega⟩)
  else if h2 : c.val < 14 then toR (XI (ix3 r (t.castLE (by decide)) ⟨c - 10, by omega⟩))
  else emb T (pickAt XI r (t.castLE (by decide))) ⟨c - 14, by omega⟩

/-- The decoder's input at batch row `r`, step `t`, column `c`. -/
def decAt (X : (colS 4).Idx → EReal) (XD : batS.Idx → EReal) (XI : (colS 14).Idx → BitVec 32) (T : Tables)
    (r : Fin 4096) (t : Fin 15) (c : Fin 78) : EReal :=
  if h : c.val < 2 then X (ix3 r (t.natAdd 56) ⟨c, by omega⟩)
  else if h1 : c.val < 3 then X (ix3 r (t.natAdd 56) 3)
  else if h2 : c.val < 9 then XD (ix2 r ⟨c - 3, by omega⟩)
  else if h3 : c.val < 59 then emb T (pickAt XI r (t.natAdd 56)) ⟨c - 9, by omega⟩
  else if h4 : c.val < 63 then toR (XI (ix3 r (t.natAdd 56) ⟨c - 59, by omega⟩))
  else if c.val - 63 = t.val then 1 else 0

end Cert.Proof

end
-- ==== Proof.PrepTables.lean ====
/- The embedding rows the kernel's first pass prepares: the ten tables' first three rows, each scaled down to its
   largest norm and laid side by side (`side_apply`), and the row vectors it cuts from them. -/
module

public import proofs.«01_k».proof.Proof.Spec
public import proofs.«01_k».proof.Proof.Gen.KernelIdeal.Frame
public import Idealize.ShloMosaic.Lib.Pointwise
public import Idealize.ShloMosaic.Lib.Pipeline.ValueKit.Tiles

@[expose] public section

set_option maxRecDepth 16384

noncomputable section

namespace Cert.Proof

open Idealize.ShloMosaic Idealize.SL.Sem
open Cert.KernelIdeal Cert.KernelIdeal.Gen

section Rows

variable {D : ℕ} (mn : BitVec 32) (hr : (tblS 3 D).Reduces [1] S3) (hb : S3x1.Broadcasts (tblS 3 D))

/-- The norms of three rows, as a column. -/
def norms (w : FVec Ideal (tblS 3 D) .f32) : FVec Ideal S3x1 .f32 :=
  sqrt (shapeCast S3x1 (multiReduction .add [1] S3 (mulf w w) 0x00000000#32 hr (.inl rfl) rfl) shapeCasts_S3_S3x1)

/-- Three rows scaled down to a largest norm. -/
def scaled (w : FVec Ideal (tblS 3 D) .f32) : FVec Ideal (tblS 3 D) .f32 :=
  mulf w (broadcastTo (tblS 3 D)
    (select (cmpf .ogt (norms hr w) (broadcast S3x1 (Scalar.ofBits (F := Ideal) .f32 mn)))
      (divf (broadcast S3x1 (Scalar.ofBits (F := Ideal) .f32 mn))
        (addf (norms hr w) (broadcast S3x1 (Scalar.ofBits (F := Ideal) .f32 0x33D6BF95#32))))
      (broadcast S3x1 (Scalar.ofBits (F := Ideal) .f32 0x3F800000#32))) hb)

theorem scaled_apply (w : FVec Ideal (tblS 3 D) .f32) (k : Fin 3) (c : Fin D) :
    scaled mn hr hb w (ix2 k c) = nrow (Ideal.ofBits .f32 mn) (fun j => w (ix2 k j)) c := by
  unfold scaled norms nrow scl
  pointwise

/-- The first three rows of a table. -/
def first3 {N : ℕ} (x : Vec Ideal (tblS N D) .f32) (hi : ∀ a, (![0, 0] : Fin 2 → ℕ) a + (tblS 3 D).size a ≤ (tblS N D).size a) :
    FVec Ideal (tblS 3 D) .f32 :=
  View.ld x (Rect.unit (s := tblS N D) ![0, 0] (tblS 3 D).size hi)

theorem scaled_first3 {N : ℕ} (x : Vec Ideal (tblS N D) .f32) (hi) (k : Fin 3) (c : Fin D) :
    scaled mn hr hb (first3 x hi) (ix2 k c) = tblRow ((Nat.zero_add 3).symm.le.trans (hi 0)) mn x k c := by
  rw [scaled_apply]
  unfold tblRow
  congr 1
  funext j
  exact View.ld_unit_apply_of x _ _ hi _ _ (by rw [Fin.forall_fin_two]; exact ⟨(zero_add _).symm, (zero_add _).symm⟩)

end Rows

/-- The ten scaled blocks of three rows side by side, as the kernel's first pass computes them. -/
def side (T : Tables) : FVec Ideal S3x50 .f32 :=
  k0_pay17 (k0_pay89 (F := Ideal) T.t0 T.t1 T.t2 T.t3 T.t4 T.t5 T.t6 T.t7 T.t8 T.t9) (k0_pay90 (F := Ideal) T.t0 T.t1 T.t2 T.t3 T.t4 T.t5 T.t6 T.t7 T.t8 T.t9)
    (k0_pay91 (F := Ideal) T.t0 T.t1 T.t2 T.t3 T.t4 T.t5 T.t6 T.t7 T.t8 T.t9) (k0_pay92 (F := Ideal) T.t0 T.t1 T.t2 T.t3 T.t4 T.t5 T.t6 T.t7 T.t8 T.t9)
    (k0_pay93 (F := Ideal) T.t0 T.t1 T.t2 T.t3 T.t4 T.t5 T.t6 T.t7 T.t8 T.t9) (k0_pay94 (F := Ideal) T.t0 T.t1 T.t2 T.t3 T.t4 T.t5 T.t6 T.t7 T.t8 T.t9)
    (k0_pay95 (F := Ideal) T.t0 T.t1 T.t2 T.t3 T.t4 T.t5 T.t6 T.t7 T.t8 T.t9) (k0_pay96 (F := Ideal) T.t0 T.t1 T.t2 T.t3 T.t4 T.t5 T.t6 T.t7 T.t8 T.t9)
    (first3 T.t8 (by decide)) (k0_pay97 (F := Ideal) T.t0 T.t1 T.t2 T.t3 T.t4 T.t5 T.t6 T.t7 T.t8 T.t9)
    (first3 T.t9 (by decide))

theorem side_eq (T : Tables) : side T = concatenate S3x50 1 [
    ⟨S3x8, scaled 0x41000000#32 reduces_S3x8_S3 broadcasts_S3x1_S3x8 (first3 T.t0 (by decide))⟩,
    ⟨S3x8, scaled 0x41000000#32 reduces_S3x8_S3 broadcasts_S3x1_S3x8 (first3 T.t1 (by decide))⟩,
    ⟨S3x2, scaled 0x40000000#32 reduces_S3x2_S3 broadcasts_S3x1_S3x2 (first3 T.t2 (by decide))⟩,
    ⟨S3x5, scaled 0x40A00000#32 reduces_S3x5_S3 broadcasts_S3x1_S3x5 (first3 T.t3 (by decide))⟩,
    ⟨S3x5, scaled 0x40A00000#32 reduces_S3x5_S3 broadcasts_S3x1_S3x5 (first3 T.t4 (by decide))⟩,
    ⟨S3x5, scaled 0x40A00000#32 reduces_S3x5_S3 broadcasts_S3x1_S3x5 (first3 T.t5 (by decide))⟩,
    ⟨S3x10, scaled 0x41200000#32 reduces_S3x10_S3 broadcasts_S3x1_S3x10 (first3 T.t6 (by decide))⟩,
    ⟨S3x2, scaled 0x40000000#32 reduces_S3x2_S3 broadcasts_S3x1_S3x2 (first3 T.t7 (by decide))⟩,
    ⟨S3x2, scaled 0x40000000#32 reduces_S3x2_S3 broadcasts_S3x1_S3x2 (first3 T.t8 (by decide))⟩,
    ⟨S3x3, scaled 0x40400000#32 reduces_S3x3_S3 broadcasts_S3x1_S3x3 (first3 T.t9 (by decide))⟩]
    concatenates_S3x8_S3x8_S3x2_S3x5_S3x5_S3x5_S3x10_S3x2_S3x2_S3x3_S3x50_d1 := rfl

/-- Row `k`, column `c` of the ten blocks is row `k` of the table that column lies in, scaled. -/
theorem side_apply (T : Tables) (k : Fin 3) (c : Fin 50) : side T (ix2 k c) = emb T (fun _ => k) c := by
  rw [side_eq, emb]
  pointwise
  simp only [scaled_first3]
  rfl

section Rows

variable (T : Tables) (z : Fin 1)

/-- Row 0 of the ten blocks, and the differences of rows 1 and 2 from it. -/
def row0 : FVec Ideal S1x50 .f32 := extractStridedSlice S1x50 ![0, 0] (side T) slices_S3x50_o0_0_S1x50
/-- Row 1 less row 0. -/
def dif1 : FVec Ideal S1x50 .f32 := subf (extractStridedSlice S1x50 ![1, 0] (side T) slices_S3x50_o1_0_S1x50) (row0 T)
/-- Row 2 less row 0. -/
def dif2 : FVec Ideal S1x50 .f32 := subf (extractStridedSlice S1x50 ![2, 0] (side T) slices_S3x50_o2_0_S1x50) (row0 T)

theorem row0_apply (c : Fin 50) : row0 T (ix2 z c) = emb T (fun _ => 0) c := by
  unfold row0
  rw [← side_apply T 0 c]
  pointwise

theorem dif1_apply (c : Fin 50) : dif1 T (ix2 z c) = emb T (fun _ => 1) c - emb T (fun _ => 0) c := by
  unfold dif1
  rw [← side_apply T 1 c, ← row0_apply T z c]
  pointwise

theorem dif2_apply (c : Fin 50) : dif2 T (ix2 z c) = emb T (fun _ => 2) c - emb T (fun _ => 0) c := by
  unfold dif2
  rw [← side_apply T 2 c, ← row0_apply T z c]
  pointwise

end Rows

section Tile

variable {α : Type} (z : Fin 1)

/-- A row of 64 repeated eight times. -/
def tileE (v : S1x64.Idx → α) : S1x512.Idx → α :=
  concatenate S1x512 1 [⟨S1x64, v⟩, ⟨S1x64, v⟩, ⟨S1x64, v⟩, ⟨S1x64, v⟩, ⟨S1x64, v⟩, ⟨S1x64, v⟩, ⟨S1x64, v⟩, ⟨S1x64, v⟩]
    concatenates_S1x64_S1x64_S1x64_S1x64_S1x64_S1x64_S1x64_S1x64_S1x512_d1

/-- A row of 78 repeated fifteen times. -/
def tileD (v : S1x78.Idx → α) : S1x1170.Idx → α :=
  concatenate S1x1170 1 [⟨S1x78, v⟩, ⟨S1x78, v⟩, ⟨S1x78, v⟩, ⟨S1x78, v⟩, ⟨S1x78, v⟩, ⟨S1x78, v⟩, ⟨S1x78, v⟩, ⟨S1x78, v⟩, ⟨S1x78, v⟩, ⟨S1x78, v⟩, ⟨S1x78, v⟩, ⟨S1x78, v⟩, ⟨S1x78, v⟩, ⟨S1x78, v⟩, ⟨S1x78, v⟩]
    concatenates_S1x78_S1x78_S1x78_S1x78_S1x78_S1x78_S1x78_S1x78_S1x78_S1x78_S1x78_S1x78_S1x78_S1x78_S1x78_S1x1170_d1

theorem tileE_apply (v : S1x64.Idx → α) (n : Fin 512) (c : Fin 64) (h : c.val = n.val % 64) : tileE v (ix2 z n) = v (ix2 z c) :=
  concatenate_replicate_apply (t := S1x512) (s₁ := S1x64) 1 8 v _ rfl (ix2 z n) (ix2 z c) h (by
    intro b hb
    match b with
    | 0 => rfl
    | 1 => exact absurd rfl hb)

theorem tileD_apply (v : S1x78.Idx → α) (n : Fin 1170) (c : Fin 78) (h : c.val = n.val % 78) : tileD v (ix2 z n) = v (ix2 z c) :=
  concatenate_replicate_apply (t := S1x1170) (s₁ := S1x78) 1 15 v _ rfl (ix2 z n) (ix2 z c) h (by
    intro b hb
    match b with
    | 0 => rfl
    | 1 => exact absurd rfl hb)

/-- Fourteen zeros before a row of 50. -/
def padE (v : FVec Ideal S1x50 .f32) : FVec Ideal S1x64 .f32 :=
  concatenate S1x64 1 [⟨S1x14, broadcast S1x14 (Scalar.sitofp (F := Ideal) .f32 0#32)⟩, ⟨S1x50, v⟩] concatenates_S1x14_S1x50_S1x64_d1

/-- Nine zeros before a row of 50 and nineteen after it. -/
def padD (v : FVec Ideal S1x50 .f32) : FVec Ideal S1x78 .f32 :=
  concatenate S1x78 1 [⟨S1x59, concatenate S1x59 1 [⟨S1x9, broadcast S1x9 (Scalar.sitofp (F := Ideal) .f32 0#32)⟩, ⟨S1x50, v⟩]
    concatenates_S1x9_S1x50_S1x59_d1⟩, ⟨S1x19, broadcast S1x19 (Scalar.sitofp (F := Ideal) .f32 0#32)⟩] concatenates_S1x59_S1x19_S1x78_d1

/-- A function of 50 columns read `off` columns in, 0 outside them. -/
def shifted (off : ℕ) (f : Fin 50 → EReal) (c : ℕ) : EReal := if h : off ≤ c ∧ c - off < 50 then f ⟨c - off, h.2⟩ else 0

theorem sitofp_zero : (Scalar.sitofp (F := Ideal) .f32 0#32 : EReal) = 0 := by
  show (((0#32 : BitVec 32).toInt : ℝ) : EReal) = 0
  simp

theorem padE_apply (v : FVec Ideal S1x50 .f32) (c : Fin 64) : padE v (ix2 z c) = shifted 14 (fun j => v (ix2 z j)) c := by
  unfold padE shifted
  obtain rfl : z = 0 := Subsingleton.elim _ _
  pointwise
  repeat' (first | (exfalso; omega) | split)
  all_goals first | exact sitofp_zero | rfl

theorem padD_apply (v : FVec Ideal S1x50 .f32) (c : Fin 78) : padD v (ix2 z c) = shifted 9 (fun j => v (ix2 z j)) c := by
  unfold padD shifted
  obtain rfl : z = 0 := Subsingleton.elim _ _
  pointwise
  repeat' (first | (exfalso; omega) | split)
  all_goals first | exact sitofp_zero | rfl

end Tile

end Cert.Proof

end
-- ==== Proof.PrepMask.lean ====
/- The two 0/1 expansion matrices the kernel's first pass builds, read at an index down to words. -/
module

public import proofs.«01_k».proof.Proof.PrepTables

@[expose] public section

set_option maxRecDepth 16384

noncomputable section

namespace Cert.Proof

open Idealize.ShloMosaic Idealize.SL.Sem
open Cert.KernelIdeal Cert.KernelIdeal.Gen

section Words

/-- The sign of a word, as the printed floor division takes it. -/
def sgnw (u : BitVec 32) : BitVec 32 :=
  IntOp.subi ((IntOp.cmpi .sgt u 0#32).setWidth 32) ((IntOp.cmpi .slt u 0#32).setWidth 32)

/-- The printed floor division of a word. -/
def fdw (u d : BitVec 32) : BitVec 32 :=
  Scalar.select (IntOp.andi (IntOp.cmpi .ne (sgnw u) (sgnw d)) (IntOp.cmpi .ne (IntOp.remsi .vector u d) 0#32))
    (IntOp.subi (IntOp.divsi .vector u d) 1#32) (IntOp.divsi .vector u d)

/-- The divisor the printed remainder guards against zero. -/
def dvs (d : BitVec 32) : BitVec 32 := Scalar.select (IntOp.cmpi .eq d 0#32) 1#32 d

/-- The printed remainder of a word, of the divisor's sign. -/
def fmw (u d : BitVec 32) : BitVec 32 :=
  Scalar.select (IntOp.andi (IntOp.xori (IntOp.cmpi .slt (IntOp.remsi .vector u (dvs d)) 0#32) (IntOp.cmpi .slt (dvs d) 0#32))
      (IntOp.cmpi .ne (IntOp.remsi .vector u (dvs d)) 0#32))
    (IntOp.addi (IntOp.remsi .vector u (dvs d)) (dvs d)) (IntOp.remsi .vector u (dvs d))

/-- A bit as a float. -/
def bitE (b : BitVec 1) : EReal := FloatOps.sitofp (F := Ideal) .f32 (b.setWidth 32)

/-- `lo ≤ u < hi`, as printed. -/
def within (u lo hi : BitVec 32) : BitVec 1 := IntOp.andi (IntOp.cmpi .sge u lo) (IntOp.cmpi .slt u hi)

/-- The rows `lo..hi` hold the integer columns of the steps, fourteen a step: a row's first four go to the columns from
    `off` on of the same step. -/
def intBit (u lo hi off s c : BitVec 32) : BitVec 1 :=
  IntOp.andi (IntOp.andi (IntOp.andi (within u lo hi) (IntOp.cmpi .eq (fdw (IntOp.subi u lo) 14#32) s))
    (IntOp.cmpi .slt (fmw (IntOp.subi u lo) 14#32) 4#32)) (IntOp.cmpi .eq c (IntOp.addi off (fmw (IntOp.subi u lo) 14#32)))

/-- As `intBit`, the last ten of a step: each goes to the columns that its table owns. -/
def embBit (u lo hi s o : BitVec 32) : BitVec 1 :=
  IntOp.andi (IntOp.andi (IntOp.andi (within u lo hi) (IntOp.cmpi .eq (fdw (IntOp.subi u lo) 14#32) s))
    (IntOp.cmpi .sge (fmw (IntOp.subi u lo) 14#32) 4#32)) (IntOp.cmpi .eq o (IntOp.subi (fmw (IntOp.subi u lo) 14#32) 4#32))

/-- The rows `lo..hi` hold the columns that every step shares. -/
def shrBit (u lo hi off c : BitVec 32) : BitVec 1 :=
  IntOp.andi (within u lo hi) (IntOp.cmpi .eq c (IntOp.addi (IntOp.subi u lo) off))

/-- The encoder's matrix at row `u`, step `s`, column `c` owned by `o`, where `a`, `b`, `w` are the three embedding rows there. -/
def encWord (u s c o : BitVec 32) (a b w : EReal) : EReal :=
  bitE (IntOp.andi (IntOp.andi (IntOp.cmpi .slt u 32#32) (IntOp.cmpi .eq (fdw u 4#32) s)) (IntOp.cmpi .eq c (fmw u 4#32)))
    + bitE (intBit u 32#32 144#32 10#32 s c)
    + bitE (embBit u 144#32 256#32 s o) * a
    + bitE (embBit u 256#32 368#32 s o) * b
    + bitE (shrBit u 368#32 374#32 4#32 c)
    + bitE (IntOp.cmpi .eq u 374#32) * w

/-- Which of the four real columns of a step go to which of the decoder's first three. -/
def realBit (f c : BitVec 32) : BitVec 1 :=
  IntOp.ori (IntOp.ori (IntOp.andi (IntOp.cmpi .eq f 0#32) (IntOp.cmpi .eq c 0#32))
    (IntOp.andi (IntOp.cmpi .eq f 1#32) (IntOp.cmpi .eq c 1#32))) (IntOp.andi (IntOp.cmpi .eq f 3#32) (IntOp.cmpi .eq c 2#32))

/-- The decoder's matrix at row `u`, step `s`, column `c`. -/
def decWord (u s c o : BitVec 32) (a b w : EReal) : EReal :=
  bitE (IntOp.andi (IntOp.andi (IntOp.cmpi .slt u 60#32) (IntOp.cmpi .eq (fdw u 4#32) s)) (realBit (fmw u 4#32) c))
    + bitE (intBit u 60#32 270#32 59#32 s c)
    + bitE (embBit u 270#32 480#32 s o) * a
    + bitE (embBit u 480#32 690#32 s o) * b
    + bitE (shrBit u 690#32 696#32 3#32 c)
    + bitE (IntOp.andi (IntOp.cmpi .eq u 696#32) (IntOp.cmpi .eq c (IntOp.addi 63#32 s)))
    + bitE (IntOp.cmpi .eq u 696#32) * w

end Words

section Stages

variable (u s c : IVec S375x512 32) (o : IVec S1x512 32) (a : FVec Ideal S1x512 .f32) (p : FVec Ideal S375x512 .f32) (i : S375x512.Idx)

theorem encReal : k0_pay36 (F := Ideal) u s c 4#32 (k0_pay33 u) (k0_pay34 u) k0_pay35 i
    = bitE (IntOp.andi (IntOp.andi (IntOp.cmpi .slt (u i) 32#32) (IntOp.cmpi .eq (fdw (u i) 4#32) (s i)))
        (IntOp.cmpi .eq (c i) (fmw (u i) 4#32))) := rfl

theorem encInt : k0_pay40 u s c p (k0_pay37 u) 14#32 (k0_pay38 u) (k0_pay39 u) (Scalar.extui (Scalar.cmpi .sgt 14#32 0#32)) i
    = p i + bitE (intBit (u i) 32#32 144#32 10#32 (s i) (c i)) := rfl

theorem encEmb1 : k0_pay46 a o u s p (k0_pay42 u 144#32) (k0_pay43 u 144#32) (k0_pay44 u) k0_pay45 i
    = p i + bitE (embBit (u i) 144#32 256#32 (s i) (broadcastTo S375x512 o broadcasts_S1x512_S375x512 i))
      * broadcastTo S375x512 a broadcasts_S1x512_S375x512 i := rfl

theorem encEmb2 : k0_pay50 a o u s c p (k0_pay48 u) (Scalar.select (Scalar.cmpi .eq 14#32 0#32) 1#32 14#32) (k0_pay49 u) i
    = p i + bitE (embBit (u i) 256#32 368#32 (s i) (broadcastTo S375x512 o broadcasts_S1x512_S375x512 i))
      * broadcastTo S375x512 a broadcasts_S1x512_S375x512 i + bitE (shrBit (u i) 368#32 374#32 4#32 (c i)) := rfl

theorem encOne : k0_pay52 a p (k0_pay51 u) i
    = p i + bitE (IntOp.cmpi .eq (u i) 374#32) * broadcastTo S375x512 a broadcasts_S1x512_S375x512 i := rfl

variable (u' s' c' : IVec S697x1170 32) (o' : IVec S1x1170 32) (a' : FVec Ideal S1x1170 .f32) (p' : FVec Ideal S697x1170 .f32) (i' : S697x1170.Idx)

theorem decReal : k0_pay70 (F := Ideal) u' s' c' (k0_pay66 u') (k0_pay67 u') (k0_pay68 u') k0_pay69 i'
    = bitE (IntOp.andi (IntOp.andi (IntOp.cmpi .slt (u' i') 60#32) (IntOp.cmpi .eq (fdw (u' i') 4#32) (s' i')))
        (realBit (fmw (u' i') 4#32) (c' i'))) := rfl

theorem decInt : k0_pay75 u' s' c' p' (k0_pay71 u') (k0_pay72 u') (k0_pay73 u') (k0_pay74 u') 0#32 i'
    = p' i' + bitE (intBit (u' i') 60#32 270#32 59#32 (s' i') (c' i')) := rfl

theorem decEmb1 : k0_pay81 a' o' p' (k0_pay79 (k0_pay76 u')) (k0_pay80 u' s' (k0_pay76 u') 14#32 (k0_pay77 u') (k0_pay78 u')) 4#32 i'
    = p' i' + bitE (embBit (u' i') 270#32 480#32 (s' i') (broadcastTo S697x1170 o' broadcasts_S1x1170_S697x1170 i'))
      * broadcastTo S697x1170 a' broadcasts_S1x1170_S697x1170 i' := rfl

theorem decEmb2 : k0_pay88 a' o' u' s' c' p' (k0_pay83 u') (Scalar.select (Scalar.cmpi .eq 14#32 0#32) 1#32 14#32) (k0_pay84 u')
      (k0_pay85 u') (k0_pay86 u') k0_pay87 i'
    = p' i' + bitE (embBit (u' i') 480#32 690#32 (s' i') (broadcastTo S697x1170 o' broadcasts_S1x1170_S697x1170 i'))
      * broadcastTo S697x1170 a' broadcasts_S1x1170_S697x1170 i' + bitE (shrBit (u' i') 690#32 696#32 3#32 (c' i'))
      + bitE (IntOp.andi (IntOp.cmpi .eq (u' i') 696#32) (IntOp.cmpi .eq (c' i') (IntOp.addi 63#32 (s' i')))) := rfl

theorem decOne : k0_pay1 a' u' p' 696#32 i'
    = p' i' + bitE (IntOp.cmpi .eq (u' i') 696#32) * broadcastTo S697x1170 a' broadcasts_S1x1170_S697x1170 i' := rfl

end Stages

section Read

variable (T : Tables)

/-- The encoder's matrix. -/
def pe : FVec Ideal S375x512 .f32 := out0_10 (F := Ideal) T.t0 T.t1 T.t2 T.t3 T.t4 T.t5 T.t6 T.t7 T.t8 T.t9
/-- The decoder's matrix. -/
def pd : FVec Ideal S697x1170 .f32 := out0_11 (F := Ideal) T.t0 T.t1 T.t2 T.t3 T.t4 T.t5 T.t6 T.t7 T.t8 T.t9

/-- The table that each of a step's 64 columns belongs to, as a word. -/
def ownE (c : Fin 64) : BitVec 32 := if 14 ≤ c.val then BitVec.ofNat 32 (own (c.val - 14)) else 4294967295#32
/-- The table that each of a step's 78 columns belongs to, as a word. -/
def ownD (c : Fin 78) : BitVec 32 :=
  if 9 ≤ c.val ∧ c.val < 59 then BitVec.ofNat 32 (own (c.val - 9)) else 4294967295#32

/-- An embedding row in its 64 columns. -/
def atE (f : Fin 50 → EReal) (c : Fin 64) : EReal := shifted 14 f c
/-- An embedding row in its 78 columns. -/
def atD (f : Fin 50 → EReal) (c : Fin 78) : EReal := shifted 9 f c

theorem ownerE_apply (n : Fin 512) (c : Fin 64) (h : c.val = n.val % 64) :
    k0_pay100 (F := Ideal) T.t0 T.t1 T.t2 T.t3 T.t4 T.t5 T.t6 T.t7 T.t8 T.t9 (ix2 0 n) = ownE c := by
  refine (tileE_apply 0 _ n c h).trans ?_
  clear h
  revert c
  decide +kernel

theorem ownerD_apply (n : Fin 1170) (c : Fin 78) (h : c.val = n.val % 78) :
    k0_pay105 (F := Ideal) T.t0 T.t1 T.t2 T.t3 T.t4 T.t5 T.t6 T.t7 T.t8 T.t9 (ix2 0 n) = ownD c := by
  refine (tileD_apply 0 _ n c h).trans ?_
  unfold k0_pay103
  clear h
  revert c
  decide +kernel

theorem stepE (k : Fin 375) (n : Fin 512) : k0_pay101 (F := Ideal) T.t0 T.t1 T.t2 T.t3 T.t4 T.t5 T.t6 T.t7 T.t8 T.t9 (ix2 k n) = fdw (BitVec.ofNat 32 n) 64#32 := by
  have h : k0_pay101 (F := Ideal) T.t0 T.t1 T.t2 T.t3 T.t4 T.t5 T.t6 T.t7 T.t8 T.t9 (ix2 k n) = fdw (iota .tc S375x512 32 [1] iota_S375x512_d1_w32 (ix2 k n)) 64#32 := rfl
  rw [h]
  pointwise

theorem colE (k : Fin 375) (n : Fin 512) : k0_pay102 (F := Ideal) T.t0 T.t1 T.t2 T.t3 T.t4 T.t5 T.t6 T.t7 T.t8 T.t9 (ix2 k n) = fmw (BitVec.ofNat 32 n) 64#32 := by
  have h : k0_pay102 (F := Ideal) T.t0 T.t1 T.t2 T.t3 T.t4 T.t5 T.t6 T.t7 T.t8 T.t9 (ix2 k n) = fmw (iota .tc S375x512 32 [1] iota_S375x512_d1_w32 (ix2 k n)) 64#32 := rfl
  rw [h]
  pointwise

theorem rowE (k : Fin 375) (n : Fin 512) : k0_pay98 (F := Ideal) T.t0 T.t1 T.t2 T.t3 T.t4 T.t5 T.t6 T.t7 T.t8 T.t9 (ix2 k n) = BitVec.ofNat 32 k := by
  unfold k0_pay98
  pointwise

theorem stepD (k : Fin 697) (n : Fin 1170) : k0_pay106 (F := Ideal) T.t0 T.t1 T.t2 T.t3 T.t4 T.t5 T.t6 T.t7 T.t8 T.t9 (ix2 k n) = fdw (BitVec.ofNat 32 n) 78#32 := by
  have h : k0_pay106 (F := Ideal) T.t0 T.t1 T.t2 T.t3 T.t4 T.t5 T.t6 T.t7 T.t8 T.t9 (ix2 k n) = fdw (iota .tc S697x1170 32 [1] iota_S697x1170_d1_w32 (ix2 k n)) 78#32 := rfl
  rw [h]
  pointwise

theorem colD (k : Fin 697) (n : Fin 1170) : k0_pay107 (F := Ideal) T.t0 T.t1 T.t2 T.t3 T.t4 T.t5 T.t6 T.t7 T.t8 T.t9 (ix2 k n) = fmw (BitVec.ofNat 32 n) 78#32 := by
  have h : k0_pay107 (F := Ideal) T.t0 T.t1 T.t2 T.t3 T.t4 T.t5 T.t6 T.t7 T.t8 T.t9 (ix2 k n) = fmw (iota .tc S697x1170 32 [1] iota_S697x1170_d1_w32 (ix2 k n)) 78#32 := rfl
  rw [h]
  pointwise

theorem rowD (k : Fin 697) (n : Fin 1170) : k0_pay104 (F := Ideal) T.t0 T.t1 T.t2 T.t3 T.t4 T.t5 T.t6 T.t7 T.t8 T.t9 (ix2 k n) = BitVec.ofNat 32 k := by
  unfold k0_pay104
  pointwise

theorem pe_words (k : Fin 375) (n : Fin 512) :
    pe T (ix2 k n) = encWord (BitVec.ofNat 32 k) (fdw (BitVec.ofNat 32 n) 64#32) (fmw (BitVec.ofNat 32 n) 64#32)
      (broadcastTo S375x512 (k0_pay100 (F := Ideal) T.t0 T.t1 T.t2 T.t3 T.t4 T.t5 T.t6 T.t7 T.t8 T.t9) broadcasts_S1x512_S375x512 (ix2 k n))
      (broadcastTo S375x512 (tileE (padE (dif1 T))) broadcasts_S1x512_S375x512 (ix2 k n))
      (broadcastTo S375x512 (tileE (padE (dif2 T))) broadcasts_S1x512_S375x512 (ix2 k n))
      (broadcastTo S375x512 (tileE (padE (row0 T))) broadcasts_S1x512_S375x512 (ix2 k n)) := by
  unfold pe out0_10
  rw [View.canon_cons_unit_lit _ _ _ (by decide), encOne, encEmb2, encEmb1, encInt, encReal, stepE, colE, rowE]
  rfl

theorem pd_words (k : Fin 697) (n : Fin 1170) :
    pd T (ix2 k n) = decWord (BitVec.ofNat 32 k) (fdw (BitVec.ofNat 32 n) 78#32) (fmw (BitVec.ofNat 32 n) 78#32)
      (broadcastTo S697x1170 (k0_pay105 (F := Ideal) T.t0 T.t1 T.t2 T.t3 T.t4 T.t5 T.t6 T.t7 T.t8 T.t9) broadcasts_S1x1170_S697x1170 (ix2 k n))
      (broadcastTo S697x1170 (tileD (padD (dif1 T))) broadcasts_S1x1170_S697x1170 (ix2 k n))
      (broadcastTo S697x1170 (tileD (padD (dif2 T))) broadcasts_S1x1170_S697x1170 (ix2 k n))
      (broadcastTo S697x1170 (tileD (padD (row0 T))) broadcasts_S1x1170_S697x1170 (ix2 k n)) := by
  unfold pd out0_11
  unfold k0_pay108
  rw [View.canon_cons_unit_lit _ _ _ (by decide), decOne, decEmb2, decEmb1, decInt, decReal, stepD, colD, rowD]
  rfl

end Read

end Cert.Proof

end
-- ==== Proof.PrepForm.lean ====
/- The two expansion matrices in closed form, one range of rows at a time. -/
module

public import proofs.«01_k».proof.Proof.PrepMask

@[expose] public section

set_option maxRecDepth 16384

noncomputable section

namespace Cert.Proof

open Idealize.ShloMosaic Idealize.SL.Sem
open Cert.KernelIdeal Cert.KernelIdeal.Gen

/-- 1 where a statement holds and 0 where it does not. -/
def ind (p : Prop) [Decidable p] : EReal := if p then 1 else 0

theorem ind_pos {p : Prop} [Decidable p] (h : p) : ind p = 1 := if_pos h
theorem ind_neg {p : Prop} [Decidable p] (h : ¬p) : ind p = 0 := if_neg h
theorem ind_in {p q : Prop} [Decidable p] [Decidable q] (h : p) : ind (p ∧ q) = ind q := by simp only [ind, h, true_and]
theorem ind_out {p q : Prop} [Decidable p] [Decidable q] (h : ¬p) : ind (p ∧ q) = 0 := by simp only [ind, h, false_and, if_false]

section Words

/-- A natural number as a word. -/
abbrev wd (k : ℕ) : BitVec 32 := BitVec.ofNat 32 k

theorem toInt_wd {k : ℕ} (h : k < 4000) : (wd k).toInt = k := by
  rw [BitVec.toInt_eq_toNat_of_lt] <;> simp only [BitVec.toNat_ofNat] <;> omega

theorem wd_inj {a b : ℕ} (ha : a < 4000) (hb : b < 4000) : wd a = wd b ↔ a = b := by
  refine ⟨fun h => ?_, fun h => by rw [h]⟩
  have := congrArg BitVec.toInt h
  rw [toInt_wd ha, toInt_wd hb] at this
  omega

theorem slt_wd {a b : ℕ} (ha : a < 4000) (hb : b < 4000) : IntOp.cmpi .slt (wd a) (wd b) = BitVec.ofBool (decide (a < b)) := by
  unfold IntOp.cmpi
  simp only [BitVec.slt, toInt_wd ha, toInt_wd hb, Nat.cast_lt]

theorem sge_wd {a b : ℕ} (ha : a < 4000) (hb : b < 4000) : IntOp.cmpi .sge (wd a) (wd b) = BitVec.ofBool (decide (b ≤ a)) := by
  unfold IntOp.cmpi
  simp only [BitVec.sle, toInt_wd ha, toInt_wd hb, Nat.cast_le]

theorem eq_word (x y : BitVec 32) : IntOp.cmpi .eq x y = BitVec.ofBool (decide (x = y)) := by
  unfold IntOp.cmpi
  congr 1

theorem eq_wd {a b : ℕ} (ha : a < 4000) (hb : b < 4000) : IntOp.cmpi .eq (wd a) (wd b) = BitVec.ofBool (decide (a = b)) := by
  rw [eq_word]
  simp only [wd_inj ha hb]

theorem and_bits (p q : Prop) [Decidable p] [Decidable q] :
    IntOp.andi (BitVec.ofBool (decide p)) (BitVec.ofBool (decide q)) = BitVec.ofBool (decide (p ∧ q)) := by
  by_cases p <;> by_cases q <;> simp_all [IntOp.andi]

theorem or_bits (p q : Prop) [Decidable p] [Decidable q] :
    IntOp.ori (BitVec.ofBool (decide p)) (BitVec.ofBool (decide q)) = BitVec.ofBool (decide (p ∨ q)) := by
  by_cases p <;> by_cases q <;> simp_all [IntOp.ori]

theorem bitE_ofBool (p : Prop) [Decidable p] : bitE (BitVec.ofBool (decide p)) = ind p := by
  show ((((BitVec.ofBool (decide p)).setWidth 32).toInt : ℝ) : EReal) = ind p
  unfold ind
  by_cases p <;> simp_all

theorem bitE_zero : bitE 0#1 = 0 := by
  show ((((0#1 : BitVec 1).setWidth 32).toInt : ℝ) : EReal) = 0
  simp

theorem sub_wd {a b : ℕ} (h : b ≤ a) : IntOp.subi (wd a) (wd b) = wd (a - b) := by
  show wd a - wd b = wd (a - b)
  have e : wd a = wd (a - b) + wd b := by rw [← BitVec.ofNat_add, Nat.sub_add_cancel h]
  rw [e, BitVec.add_sub_cancel]

theorem add_wd (a b : ℕ) : IntOp.addi (wd a) (wd b) = wd (a + b) := (BitVec.ofNat_add a b).symm

theorem fd4 {k : ℕ} (h : k < 1170) : fdw (wd k) 4#32 = wd (k / 4) :=
  (by decide +kernel : ∀ k : Fin 1170, fdw (wd k) 4#32 = wd (k / 4)) ⟨k, h⟩
theorem fm4 {k : ℕ} (h : k < 1170) : fmw (wd k) 4#32 = wd (k % 4) :=
  (by decide +kernel : ∀ k : Fin 1170, fmw (wd k) 4#32 = wd (k % 4)) ⟨k, h⟩
theorem fd14 {k : ℕ} (h : k < 1170) : fdw (wd k) 14#32 = wd (k / 14) :=
  (by decide +kernel : ∀ k : Fin 1170, fdw (wd k) 14#32 = wd (k / 14)) ⟨k, h⟩
theorem fm14 {k : ℕ} (h : k < 1170) : fmw (wd k) 14#32 = wd (k % 14) :=
  (by decide +kernel : ∀ k : Fin 1170, fmw (wd k) 14#32 = wd (k % 14)) ⟨k, h⟩
theorem fd64 {k : ℕ} (h : k < 1170) : fdw (wd k) 64#32 = wd (k / 64) :=
  (by decide +kernel : ∀ k : Fin 1170, fdw (wd k) 64#32 = wd (k / 64)) ⟨k, h⟩
theorem fm64 {k : ℕ} (h : k < 1170) : fmw (wd k) 64#32 = wd (k % 64) :=
  (by decide +kernel : ∀ k : Fin 1170, fmw (wd k) 64#32 = wd (k % 64)) ⟨k, h⟩
theorem fd78 {k : ℕ} (h : k < 1170) : fdw (wd k) 78#32 = wd (k / 78) :=
  (by decide +kernel : ∀ k : Fin 1170, fdw (wd k) 78#32 = wd (k / 78)) ⟨k, h⟩
theorem fm78 {k : ℕ} (h : k < 1170) : fmw (wd k) 78#32 = wd (k % 78) :=
  (by decide +kernel : ∀ k : Fin 1170, fmw (wd k) 78#32 = wd (k % 78)) ⟨k, h⟩

variable {k lo hi s c : ℕ}

theorem within_wd (hk : k < 1000) (hl : lo < 1000) (hh : hi < 1000) :
    within (wd k) (wd lo) (wd hi) = BitVec.ofBool (decide (lo ≤ k ∧ k < hi)) := by
  unfold within
  rw [sge_wd (by omega) (by omega), slt_wd (by omega) (by omega), and_bits]

/-- A conjunction of bits led by a false one. -/
theorem and_false {g : Prop} [Decidable g] (h : ¬g) (x : BitVec 1) : IntOp.andi (BitVec.ofBool (decide g)) x = 0#1 := by
  simp [IntOp.andi, h]

theorem and_zero (x : BitVec 1) : IntOp.andi 0#1 x = 0#1 := by simp [IntOp.andi]

theorem intBit_wd {off : ℕ} (hk : k < 1000) (hl : lo < 1000) (hh : hi < 1000) (ho : off < 1000) (hs : s < 1000) (hc : c < 1000) :
    bitE (intBit (wd k) (wd lo) (wd hi) (wd off) (wd s) (wd c))
      = ind ((lo ≤ k ∧ k < hi) ∧ ((k - lo) / 14 = s ∧ (k - lo) % 14 < 4) ∧ c = off + (k - lo) % 14) := by
  unfold intBit
  rw [within_wd hk hl hh]
  by_cases g : lo ≤ k ∧ k < hi
  · rw [sub_wd g.1, fd14 (by omega), fm14 (by omega), eq_wd (by omega) (by omega), slt_wd (by omega) (by omega), add_wd,
      eq_wd (by omega) (by omega), and_bits, and_bits, and_bits, bitE_ofBool]
    simp only [and_assoc]
  · rw [and_false g, and_zero, and_zero, bitE_zero, ind_out g]

theorem embBit_wd {o : BitVec 32} (hk : k < 1000) (hl : lo < 1000) (hh : hi < 1000) (hs : s < 1000) :
    bitE (embBit (wd k) (wd lo) (wd hi) (wd s) o)
      = ind ((lo ≤ k ∧ k < hi) ∧ ((k - lo) / 14 = s ∧ 4 ≤ (k - lo) % 14) ∧ o = wd ((k - lo) % 14 - 4)) := by
  unfold embBit
  rw [within_wd hk hl hh]
  by_cases g : lo ≤ k ∧ k < hi
  · rw [sub_wd g.1, fd14 (by omega), fm14 (by omega), eq_wd (by omega) (by omega), sge_wd (by omega) (by omega), and_bits, and_bits]
    by_cases f : 4 ≤ (k - lo) % 14
    · rw [sub_wd f, eq_word, and_bits, bitE_ofBool]
      simp only [and_assoc]
    · rw [and_false (fun h => f h.2), bitE_zero, ind_neg (fun h => f h.2.1.2)]
  · rw [and_false g, and_zero, and_zero, bitE_zero, ind_out g]

theorem shrBit_wd {off : ℕ} (hk : k < 1000) (hl : lo < 1000) (hh : hi < 1000) (ho : off < 1000) (hc : c < 1000) :
    bitE (shrBit (wd k) (wd lo) (wd hi) (wd off) (wd c)) = ind ((lo ≤ k ∧ k < hi) ∧ c = k - lo + off) := by
  unfold shrBit
  rw [within_wd hk hl hh]
  by_cases g : lo ≤ k ∧ k < hi
  · rw [sub_wd g.1, add_wd, eq_wd (by omega) (by omega), and_bits, bitE_ofBool]
  · rw [and_false g, bitE_zero, ind_out g]

theorem encWord_wd (hk : k < 375) (hs : s < 1000) (hc : c < 1000) (o : BitVec 32) (a b w : EReal) :
    encWord (wd k) (wd s) (wd c) o a b w
      = ind (k < 32 ∧ k / 4 = s ∧ c = k % 4)
        + ind ((32 ≤ k ∧ k < 144) ∧ ((k - 32) / 14 = s ∧ (k - 32) % 14 < 4) ∧ c = 10 + (k - 32) % 14)
        + ind ((144 ≤ k ∧ k < 256) ∧ ((k - 144) / 14 = s ∧ 4 ≤ (k - 144) % 14) ∧ o = wd ((k - 144) % 14 - 4)) * a
        + ind ((256 ≤ k ∧ k < 368) ∧ ((k - 256) / 14 = s ∧ 4 ≤ (k - 256) % 14) ∧ o = wd ((k - 256) % 14 - 4)) * b
        + ind ((368 ≤ k ∧ k < 374) ∧ c = k - 368 + 4)
        + ind (k = 374) * w := by
  unfold encWord
  rw [intBit_wd (by omega) (by omega) (by omega) (by omega) (by omega) (by omega),
    embBit_wd (by omega) (by omega) (by omega) (by omega), embBit_wd (by omega) (by omega) (by omega) (by omega),
    shrBit_wd (by omega) (by omega) (by omega) (by omega) (by omega), fd4 (by omega), fm4 (by omega),
    slt_wd (by omega) (by omega), eq_wd (by omega) (by omega), eq_wd (by omega) (by omega), eq_wd (by omega) (by omega),
    and_bits, and_bits, bitE_ofBool, bitE_ofBool]
  simp only [and_assoc]

theorem decWord_wd (hk : k < 697) (hs : s < 100) (hc : c < 1000) (o : BitVec 32) (a b w : EReal) :
    decWord (wd k) (wd s) (wd c) o a b w
      = ind (k < 60 ∧ k / 4 = s ∧ ((k % 4 = 0 ∧ c = 0 ∨ k % 4 = 1 ∧ c = 1) ∨ k % 4 = 3 ∧ c = 2))
        + ind ((60 ≤ k ∧ k < 270) ∧ ((k - 60) / 14 = s ∧ (k - 60) % 14 < 4) ∧ c = 59 + (k - 60) % 14)
        + ind ((270 ≤ k ∧ k < 480) ∧ ((k - 270) / 14 = s ∧ 4 ≤ (k - 270) % 14) ∧ o = wd ((k - 270) % 14 - 4)) * a
        + ind ((480 ≤ k ∧ k < 690) ∧ ((k - 480) / 14 = s ∧ 4 ≤ (k - 480) % 14) ∧ o = wd ((k - 480) % 14 - 4)) * b
        + ind ((690 ≤ k ∧ k < 696) ∧ c = k - 690 + 3)
        + ind (k = 696 ∧ c = 63 + s)
        + ind (k = 696) * w := by
  unfold decWord realBit
  rw [intBit_wd (by omega) (by omega) (by omega) (by omega) (by omega) (by omega),
    embBit_wd (by omega) (by omega) (by omega) (by omega), embBit_wd (by omega) (by omega) (by omega) (by omega),
    shrBit_wd (by omega) (by omega) (by omega) (by omega) (by omega), fd4 (by omega), fm4 (by omega), add_wd 63 s,
    slt_wd (by omega) (by omega), eq_wd (a := k / 4) (by omega) (by omega), eq_wd (b := 0) (by omega) (by omega),
    eq_wd (a := k % 4) (b := 1) (by omega) (by omega), eq_wd (a := k % 4) (b := 3) (by omega) (by omega),
    eq_wd (a := c) (b := 0) (by omega) (by omega), eq_wd (a := c) (b := 1) (by omega) (by omega),
    eq_wd (a := c) (b := 2) (by omega) (by omega), eq_wd (a := c) (b := 63 + s) (by omega) (by omega),
    eq_wd (a := k) (b := 696) (by omega) (by omega),
    and_bits, and_bits, and_bits, and_bits, or_bits, or_bits, and_bits, and_bits, bitE_ofBool, bitE_ofBool, bitE_ofBool]
  simp only [and_assoc]

end Words

section Rows

variable (T : Tables)

/-- The rows of embeddings the two selected columns add: row 1 or 2 of the ten blocks less row 0. -/
def difAt (q : Fin 3) (c : Fin 50) : EReal := emb T (fun _ => q) c - emb T (fun _ => 0) c
/-- Row 0 of the ten blocks. -/
def rowAt (c : Fin 50) : EReal := emb T (fun _ => 0) c

theorem pe_form (k : Fin 375) (n : Fin 512) (c : Fin 64) (h : c.val = n.val % 64) :
    pe T (ix2 k n) = encWord (wd k) (wd (n / 64)) (wd c) (ownE c) (atE (difAt T 1) c) (atE (difAt T 2) c) (atE (rowAt T) c) := by
  have e (v : FVec Ideal S1x512 .f32) : broadcastTo S375x512 v broadcasts_S1x512_S375x512 (ix2 k n) = v (ix2 0 n) := by pointwise
  have e' (v : IVec S1x512 32) : broadcastTo S375x512 v broadcasts_S1x512_S375x512 (ix2 k n) = v (ix2 0 n) := by pointwise
  rw [pe_words, e, e, e, e', ownerE_apply T n c h, tileE_apply _ _ n c h, tileE_apply _ _ n c h, tileE_apply _ _ n c h,
    padE_apply, padE_apply, padE_apply, fd64 (by omega), fm64 (by omega), h]
  simp only [dif1_apply, dif2_apply, row0_apply]
  unfold atE difAt rowAt
  rw [h]

theorem pd_form (k : Fin 697) (n : Fin 1170) (c : Fin 78) (h : c.val = n.val % 78) :
    pd T (ix2 k n) = decWord (wd k) (wd (n / 78)) (wd c) (ownD c) (atD (difAt T 1) c) (atD (difAt T 2) c) (atD (rowAt T) c) := by
  have e (v : FVec Ideal S1x1170 .f32) : broadcastTo S697x1170 v broadcasts_S1x1170_S697x1170 (ix2 k n) = v (ix2 0 n) := by pointwise
  have e' (v : IVec S1x1170 32) : broadcastTo S697x1170 v broadcasts_S1x1170_S697x1170 (ix2 k n) = v (ix2 0 n) := by pointwise
  rw [pd_words, e, e, e, e', ownerD_apply T n c h, tileD_apply _ _ n c h, tileD_apply _ _ n c h, tileD_apply _ _ n c h,
    padD_apply, padD_apply, padD_apply, fd78 (by omega), fm78 (by omega), h]
  simp only [dif1_apply, dif2_apply, row0_apply]
  unfold atD difAt rowAt
  rw [h]

end Rows

end Cert.Proof

end
-- ==== Proof.Sums.lean ====
/- A row times a column of an expansion matrix: the sums over the ranges of rows, and what each leaves. -/
module

public import proofs.«01_k».proof.Proof.PrepForm

@[expose] public section

set_option maxRecDepth 16384

noncomputable section

namespace Cert.Proof

open Idealize.ShloMosaic Idealize.SL.Sem
open Cert.KernelIdeal Cert.KernelIdeal.Gen

section Pick

variable {n : ℕ} (f : Fin n → EReal)

/-- A sum whose factors are 0 but at one place. -/
theorem sum_at (g : Fin n → EReal) (j : Fin n) (h : ∀ i, i ≠ j → g i = 0) : ∑ i, f i * g i = f j * g j :=
  Finset.sum_eq_single j (fun i _ hi => by rw [h i hi, mul_zero]) (fun hj => absurd (Finset.mem_univ j) hj)

theorem sum_none (g : Fin n → EReal) (h : ∀ i, g i = 0) : ∑ i, f i * g i = 0 :=
  Finset.sum_eq_zero fun i _ => by rw [h i, mul_zero]

/-- The one place of a sum of indicators, where there is one. -/
theorem sum_ind_at (p : Fin n → Prop) [∀ i, Decidable (p i)] (j : Fin n) (hj : p j) (h : ∀ i, p i → i.val = j.val) :
    ∑ i, f i * ind (p i) = f j := by
  rw [sum_at f (fun i => ind (p i)) j (fun i hi => ind_neg fun hp => hi (Fin.ext (h i hp))), ind_pos hj, mul_one]

theorem sum_ind_none (p : Fin n → Prop) [∀ i, Decidable (p i)] (h : ∀ i, ¬p i) : ∑ i, f i * ind (p i) = 0 :=
  sum_none f (fun i => ind (p i)) fun i => ind_neg (h i)

variable {s c off : ℕ}

theorem int_in (hs : 14 * s + 13 < n) (h : off ≤ c ∧ c < off + 4) :
    ∑ j, f j * ind ((j.val / 14 = s ∧ j.val % 14 < 4) ∧ c = off + j.val % 14) = f ⟨14 * s + (c - off), by omega⟩ :=
  sum_ind_at f _ _ (by dsimp only; omega) (by intro i hi; dsimp only; omega)

theorem int_out (h : ¬(off ≤ c ∧ c < off + 4)) :
    ∑ j, f j * ind ((j.val / 14 = s ∧ j.val % 14 < 4) ∧ c = off + j.val % 14) = 0 :=
  sum_ind_none f _ (by intro i hi; omega)

theorem emb_in {q : ℕ} {o : BitVec 32} (hs : 14 * s + 13 < n) (hq : q < 10) (ho : o = wd q) (a : EReal) :
    ∑ j, f j * (ind ((j.val / 14 = s ∧ 4 ≤ j.val % 14) ∧ o = wd (j.val % 14 - 4)) * a) = f ⟨14 * s + 4 + q, by omega⟩ * a := by
  subst ho
  have e : ∀ j : Fin n, wd q = wd (j.val % 14 - 4) ↔ q = j.val % 14 - 4 := fun j => wd_inj (by omega) (by omega)
  rw [sum_at f _ ⟨14 * s + 4 + q, by omega⟩ fun i hi => ?_, ind_pos, one_mul]
  · rw [e]
    dsimp only
    omega
  · rw [ind_neg, zero_mul]
    rw [e]
    intro h
    exact hi (Fin.ext (by dsimp only; omega))

theorem emb_out (p : Fin n → Prop) [∀ i, Decidable (p i)] : ∑ j, f j * (ind (p j) * 0) = 0 :=
  sum_none f _ fun i => mul_zero _

theorem shr_in (f : Fin 6 → EReal) (h : off ≤ c ∧ c < off + 6) : ∑ j, f j * ind (c = j.val + off) = f ⟨c - off, by omega⟩ :=
  sum_ind_at f _ _ (by dsimp only; omega) (by intro i hi; dsimp only; omega)

theorem shr_out (f : Fin 6 → EReal) (h : ¬(off ≤ c ∧ c < off + 6)) : ∑ j, f j * ind (c = j.val + off) = 0 :=
  sum_ind_none f _ (by intro i hi; omega)

theorem real_in (hs : 4 * s + 3 < n) (h : c < 4) : ∑ j, f j * ind (j.val / 4 = s ∧ c = j.val % 4) = f ⟨4 * s + c, by omega⟩ :=
  sum_ind_at f _ _ (by dsimp only; omega) (by intro i hi; dsimp only; omega)

theorem real_out (h : ¬c < 4) : ∑ j, f j * ind (j.val / 4 = s ∧ c = j.val % 4) = 0 :=
  sum_ind_none f _ (by intro i hi; omega)

/-- The decoder takes columns 0, 1 and 3 of the four. -/
theorem sel_in (hs : 4 * s + 3 < n) (h : c < 3) :
    ∑ j, f j * ind (j.val / 4 = s ∧ ((j.val % 4 = 0 ∧ c = 0 ∨ j.val % 4 = 1 ∧ c = 1) ∨ j.val % 4 = 3 ∧ c = 2))
      = f ⟨4 * s + (if c = 2 then 3 else c), by split <;> omega⟩ :=
  sum_ind_at f _ _ (by dsimp only; split <;> omega) (by intro i hi; dsimp only; split <;> omega)

theorem sel_out (h : ¬c < 3) :
    ∑ j, f j * ind (j.val / 4 = s ∧ ((j.val % 4 = 0 ∧ c = 0 ∨ j.val % 4 = 1 ∧ c = 1) ∨ j.val % 4 = 3 ∧ c = 2)) = 0 :=
  sum_ind_none f _ (by intro i hi; omega)

end Pick

/-- A sum cut at the six ranges a row of inputs is laid out in. -/
theorem cut6 (A B : ℕ) {N : ℕ} (hN : N = A + B + B + B + 6 + 1) (F : Fin N → EReal) :
    ∑ x, F x = ∑ j : Fin A, F ⟨j, by omega⟩ + (∑ j : Fin B, F ⟨A + j, by omega⟩ + (∑ j : Fin B, F ⟨A + B + j, by omega⟩
      + (∑ j : Fin B, F ⟨A + B + B + j, by omega⟩ + (∑ j : Fin 6, F ⟨A + B + B + B + j, by omega⟩ + F ⟨A + B + B + B + 6, by omega⟩)))) := by
  subst hN
  rw [Fin.sum_univ_add, Fin.sum_univ_add, Fin.sum_univ_add, Fin.sum_univ_add, Fin.sum_univ_add, Fin.sum_univ_one]
  simp only [add_assoc (G := EReal)]
  rfl

section Dots

variable (x1 : FVec Ideal S512x6 .f32) (one : FVec Ideal S512x1 .f32)

/-- A block's rows, a group of eight steps wide, times the encoder's matrix. -/
def encDot (xr : FVec Ideal S512x32 .f32) (v0 v1 v2 : FVec Ideal S512x112 .f32) (p : FVec Ideal S375x512 .f32) : FVec Ideal S512x512 .f32 :=
  matmul dot_S512x375_S375x512_S512x512_1_0_0_1_n_n none
    (concatenate S512x375 1 [⟨S512x32, xr⟩, ⟨S512x112, v0⟩, ⟨S512x112, v1⟩, ⟨S512x112, v2⟩, ⟨S512x6, x1⟩, ⟨S512x1, one⟩]
      concatenates_S512x32_S512x112_S512x112_S512x112_S512x6_S512x1_S512x375_d1) p (constant S512x512 .f32 0x00000000#32)

/-- A block's rows, the last fifteen steps wide, times the decoder's matrix. -/
def decDot (xr : FVec Ideal S512x60 .f32) (v0 v1 v2 : FVec Ideal S512x210 .f32) (p : FVec Ideal S697x1170 .f32) : FVec Ideal S512x1170 .f32 :=
  matmul dot_S512x697_S697x1170_S512x1170_1_0_0_1_n_n none
    (concatenate S512x697 1 [⟨S512x60, xr⟩, ⟨S512x210, v0⟩, ⟨S512x210, v1⟩, ⟨S512x210, v2⟩, ⟨S512x6, x1⟩, ⟨S512x1, one⟩]
      concatenates_S512x60_S512x210_S512x210_S512x210_S512x6_S512x1_S512x697_d1) p (constant S512x1170 .f32 0x00000000#32)

theorem encDot_apply (xr : FVec Ideal S512x32 .f32) (v0 v1 v2 : FVec Ideal S512x112 .f32) (p : FVec Ideal S375x512 .f32) (r n : Fin 512) :
    encDot x1 one xr v0 v1 v2 p (ix2 r n)
      = ∑ j : Fin 32, xr (ix2 r j) * p (ix2 ⟨j, by omega⟩ n)
        + (∑ j : Fin 112, v0 (ix2 r j) * p (ix2 ⟨32 + j, by omega⟩ n)
        + (∑ j : Fin 112, v1 (ix2 r j) * p (ix2 ⟨144 + j, by omega⟩ n)
        + (∑ j : Fin 112, v2 (ix2 r j) * p (ix2 ⟨256 + j, by omega⟩ n)
        + (∑ j : Fin 6, x1 (ix2 r j) * p (ix2 ⟨368 + j, by omega⟩ n)
        + one (ix2 r 0) * p (ix2 ⟨374, by omega⟩ n))))) := by
  unfold encDot
  pointwise
  refine (cut6 32 112 rfl _).trans ?_
  refine congrArg₂ (· + ·) (Finset.sum_congr rfl fun j _ => ?_) (congrArg₂ (· + ·) (Finset.sum_congr rfl fun j _ => ?_)
    (congrArg₂ (· + ·) (Finset.sum_congr rfl fun j _ => ?_) (congrArg₂ (· + ·) (Finset.sum_congr rfl fun j _ => ?_)
    (congrArg₂ (· + ·) (Finset.sum_congr rfl fun j _ => ?_) ?_))))
  all_goals
    dsimp only
    repeat' (first | (exfalso; omega) | split)
    all_goals exact congrArg₂ (· * ·) (congrArg _ (by idx_ext)) rfl

theorem decDot_apply (xr : FVec Ideal S512x60 .f32) (v0 v1 v2 : FVec Ideal S512x210 .f32) (p : FVec Ideal S697x1170 .f32)
    (r : Fin 512) (n : Fin 1170) :
    decDot x1 one xr v0 v1 v2 p (ix2 r n)
      = ∑ j : Fin 60, xr (ix2 r j) * p (ix2 ⟨j, by omega⟩ n)
        + (∑ j : Fin 210, v0 (ix2 r j) * p (ix2 ⟨60 + j, by omega⟩ n)
        + (∑ j : Fin 210, v1 (ix2 r j) * p (ix2 ⟨270 + j, by omega⟩ n)
        + (∑ j : Fin 210, v2 (ix2 r j) * p (ix2 ⟨480 + j, by omega⟩ n)
        + (∑ j : Fin 6, x1 (ix2 r j) * p (ix2 ⟨690 + j, by omega⟩ n)
        + one (ix2 r 0) * p (ix2 ⟨696, by omega⟩ n))))) := by
  unfold decDot
  pointwise
  refine (cut6 60 210 rfl _).trans ?_
  refine congrArg₂ (· + ·) (Finset.sum_congr rfl fun j _ => ?_) (congrArg₂ (· + ·) (Finset.sum_congr rfl fun j _ => ?_)
    (congrArg₂ (· + ·) (Finset.sum_congr rfl fun j _ => ?_) (congrArg₂ (· + ·) (Finset.sum_congr rfl fun j _ => ?_)
    (congrArg₂ (· + ·) (Finset.sum_congr rfl fun j _ => ?_) ?_))))
  all_goals
    dsimp only
    repeat' (first | (exfalso; omega) | split)
    all_goals exact congrArg₂ (· * ·) (congrArg _ (by idx_ext)) rfl

end Dots

section RowsE

variable (T : Tables) (n : Fin 512) (c : Fin 64) (h : c.val = n.val % 64)
include h

theorem pe_real (j : Fin 32) : pe T (ix2 ⟨j.val, by omega⟩ n) = ind (j.val / 4 = n.val / 64 ∧ c.val = j.val % 4) := by
  rw [pe_form T _ n c h, encWord_wd (by dsimp only; omega) (by omega) (by omega)]
  dsimp only
  rw [ind_in (p := j.val < 32) (by omega),
    ind_out (p := 32 ≤ j.val ∧ j.val < 144) (by omega),
    ind_out (p := 144 ≤ j.val ∧ j.val < 256) (by omega),
    ind_out (p := 256 ≤ j.val ∧ j.val < 368) (by omega),
    ind_out (p := 368 ≤ j.val ∧ j.val < 374) (by omega),
    ind_neg (p := j.val = 374) (by omega)]
  simp only [zero_mul, zero_add, add_zero]

theorem pe_int (j : Fin 112) : pe T (ix2 ⟨32 + j.val, by omega⟩ n) = ind ((j.val / 14 = n.val / 64 ∧ j.val % 14 < 4) ∧ c.val = 10 + j.val % 14) := by
  rw [pe_form T _ n c h, encWord_wd (by dsimp only; omega) (by omega) (by omega)]
  dsimp only
  rw [ind_out (p := 32 + j.val < 32) (by omega),
    ind_in (p := 32 ≤ 32 + j.val ∧ 32 + j.val < 144) (by omega),
    ind_out (p := 144 ≤ 32 + j.val ∧ 32 + j.val < 256) (by omega),
    ind_out (p := 256 ≤ 32 + j.val ∧ 32 + j.val < 368) (by omega),
    ind_out (p := 368 ≤ 32 + j.val ∧ 32 + j.val < 374) (by omega),
    ind_neg (p := 32 + j.val = 374) (by omega)]
  simp only [zero_mul, zero_add, add_zero, Nat.add_sub_cancel_left]

theorem pe_one1 (j : Fin 112) : pe T (ix2 ⟨144 + j.val, by omega⟩ n) = ind ((j.val / 14 = n.val / 64 ∧ 4 ≤ j.val % 14) ∧ ownE c = wd (j.val % 14 - 4)) * atE (difAt T 1) c := by
  rw [pe_form T _ n c h, encWord_wd (by dsimp only; omega) (by omega) (by omega)]
  dsimp only
  rw [ind_out (p := 144 + j.val < 32) (by omega),
    ind_out (p := 32 ≤ 144 + j.val ∧ 144 + j.val < 144) (by omega),
    ind_in (p := 144 ≤ 144 + j.val ∧ 144 + j.val < 256) (by omega),
    ind_out (p := 256 ≤ 144 + j.val ∧ 144 + j.val < 368) (by omega),
    ind_out (p := 368 ≤ 144 + j.val ∧ 144 + j.val < 374) (by omega),
    ind_neg (p := 144 + j.val = 374) (by omega)]
  simp only [zero_mul, zero_add, add_zero, Nat.add_sub_cancel_left]

theorem pe_two (j : Fin 112) : pe T (ix2 ⟨256 + j.val, by omega⟩ n) = ind ((j.val / 14 = n.val / 64 ∧ 4 ≤ j.val % 14) ∧ ownE c = wd (j.val % 14 - 4)) * atE (difAt T 2) c := by
  rw [pe_form T _ n c h, encWord_wd (by dsimp only; omega) (by omega) (by omega)]
  dsimp only
  rw [ind_out (p := 256 + j.val < 32) (by omega),
    ind_out (p := 32 ≤ 256 + j.val ∧ 256 + j.val < 144) (by omega),
    ind_out (p := 144 ≤ 256 + j.val ∧ 256 + j.val < 256) (by omega),
    ind_in (p := 256 ≤ 256 + j.val ∧ 256 + j.val < 368) (by omega),
    ind_out (p := 368 ≤ 256 + j.val ∧ 256 + j.val < 374) (by omega),
    ind_neg (p := 256 + j.val = 374) (by omega)]
  simp only [zero_mul, zero_add, add_zero, Nat.add_sub_cancel_left]

theorem pe_shr (j : Fin 6) : pe T (ix2 ⟨368 + j.val, by omega⟩ n) = ind (c.val = j.val + 4) := by
  rw [pe_form T _ n c h, encWord_wd (by dsimp only; omega) (by omega) (by omega)]
  dsimp only
  rw [ind_out (p := 368 + j.val < 32) (by omega),
    ind_out (p := 32 ≤ 368 + j.val ∧ 368 + j.val < 144) (by omega),
    ind_out (p := 144 ≤ 368 + j.val ∧ 368 + j.val < 256) (by omega),
    ind_out (p := 256 ≤ 368 + j.val ∧ 368 + j.val < 368) (by omega),
    ind_in (p := 368 ≤ 368 + j.val ∧ 368 + j.val < 374) (by omega),
    ind_neg (p := 368 + j.val = 374) (by omega)]
  simp only [zero_mul, zero_add, add_zero, Nat.add_sub_cancel_left]

theorem pe_last : pe T (ix2 ⟨374, by omega⟩ n) = atE (rowAt T) c := by
  rw [pe_form T _ n c h, encWord_wd (by dsimp only; omega) (by omega) (by omega)]
  dsimp only
  rw [ind_out (p := 374 < 32) (by omega),
    ind_out (p := 32 ≤ 374 ∧ 374 < 144) (by omega),
    ind_out (p := 144 ≤ 374 ∧ 374 < 256) (by omega),
    ind_out (p := 256 ≤ 374 ∧ 374 < 368) (by omega),
    ind_out (p := 368 ≤ 374 ∧ 374 < 374) (by omega),
    ind_pos (p := 374 = 374) (by omega)]
  simp only [zero_mul, zero_add, one_mul]

end RowsE

section RowsD

variable (T : Tables) (n : Fin 1170) (c : Fin 78) (h : c.val = n.val % 78)
include h

theorem pd_real (j : Fin 60) : pd T (ix2 ⟨j.val, by omega⟩ n) = ind (j.val / 4 = n.val / 78 ∧ ((j.val % 4 = 0 ∧ c.val = 0 ∨ j.val % 4 = 1 ∧ c.val = 1) ∨ j.val % 4 = 3 ∧ c.val = 2)) := by
  rw [pd_form T _ n c h, decWord_wd (by dsimp only; omega) (by omega) (by omega)]
  dsimp only
  rw [ind_in (p := j.val < 60) (by omega),
    ind_out (p := 60 ≤ j.val ∧ j.val < 270) (by omega),
    ind_out (p := 270 ≤ j.val ∧ j.val < 480) (by omega),
    ind_out (p := 480 ≤ j.val ∧ j.val < 690) (by omega),
    ind_out (p := 690 ≤ j.val ∧ j.val < 696) (by omega),
    ind_out (p := j.val = 696) (by omega),
    ind_neg (p := j.val = 696) (by omega)]
  simp only [zero_mul, zero_add, add_zero]

theorem pd_int (j : Fin 210) : pd T (ix2 ⟨60 + j.val, by omega⟩ n) = ind ((j.val / 14 = n.val / 78 ∧ j.val % 14 < 4) ∧ c.val = 59 + j.val % 14) := by
  rw [pd_form T _ n c h, decWord_wd (by dsimp only; omega) (by omega) (by omega)]
  dsimp only
  rw [ind_out (p := 60 + j.val < 60) (by omega),
    ind_in (p := 60 ≤ 60 + j.val ∧ 60 + j.val < 270) (by omega),
    ind_out (p := 270 ≤ 60 + j.val ∧ 60 + j.val < 480) (by omega),
    ind_out (p := 480 ≤ 60 + j.val ∧ 60 + j.val < 690) (by omega),
    ind_out (p := 690 ≤ 60 + j.val ∧ 60 + j.val < 696) (by omega),
    ind_out (p := 60 + j.val = 696) (by omega),
    ind_neg (p := 60 + j.val = 696) (by omega)]
  simp only [zero_mul, zero_add, add_zero, Nat.add_sub_cancel_left]

theorem pd_one1 (j : Fin 210) : pd T (ix2 ⟨270 + j.val, by omega⟩ n) = ind ((j.val / 14 = n.val / 78 ∧ 4 ≤ j.val % 14) ∧ ownD c = wd (j.val % 14 - 4)) * atD (difAt T 1) c := by
  rw [pd_form T _ n c h, decWord_wd (by dsimp only; omega) (by omega) (by omega)]
  dsimp only
  rw [ind_out (p := 270 + j.val < 60) (by omega),
    ind_out (p := 60 ≤ 270 + j.val ∧ 270 + j.val < 270) (by omega),
    ind_in (p := 270 ≤ 270 + j.val ∧ 270 + j.val < 480) (by omega),
    ind_out (p := 480 ≤ 270 + j.val ∧ 270 + j.val < 690) (by omega),
    ind_out (p := 690 ≤ 270 + j.val ∧ 270 + j.val < 696) (by omega),
    ind_out (p := 270 + j.val = 696) (by omega),
    ind_neg (p := 270 + j.val = 696) (by omega)]
  simp only [zero_mul, zero_add, add_zero, Nat.add_sub_cancel_left]

theorem pd_two (j : Fin 210) : pd T (ix2 ⟨480 + j.val, by omega⟩ n) = ind ((j.val / 14 = n.val / 78 ∧ 4 ≤ j.val % 14) ∧ ownD c = wd (j.val % 14 - 4)) * atD (difAt T 2) c := by
  rw [pd_form T _ n c h, decWord_wd (by dsimp only; omega) (by omega) (by omega)]
  dsimp only
  rw [ind_out (p := 480 + j.val < 60) (by omega),
    ind_out (p := 60 ≤ 480 + j.val ∧ 480 + j.val < 270) (by omega),
    ind_out (p := 270 ≤ 480 + j.val ∧ 480 + j.val < 480) (by omega),
    ind_in (p := 480 ≤ 480 + j.val ∧ 480 + j.val < 690) (by omega),
    ind_out (p := 690 ≤ 480 + j.val ∧ 480 + j.val < 696) (by omega),
    ind_out (p := 480 + j.val = 696) (by omega),
    ind_neg (p := 480 + j.val = 696) (by omega)]
  simp only [zero_mul, zero_add, add_zero, Nat.add_sub_cancel_left]

theorem pd_shr (j : Fin 6) : pd T (ix2 ⟨690 + j.val, by omega⟩ n) = ind (c.val = j.val + 3) := by
  rw [pd_form T _ n c h, decWord_wd (by dsimp only; omega) (by omega) (by omega)]
  dsimp only
  rw [ind_out (p := 690 + j.val < 60) (by omega),
    ind_out (p := 60 ≤ 690 + j.val ∧ 690 + j.val < 270) (by omega),
    ind_out (p := 270 ≤ 690 + j.val ∧ 690 + j.val < 480) (by omega),
    ind_out (p := 480 ≤ 690 + j.val ∧ 690 + j.val < 690) (by omega),
    ind_in (p := 690 ≤ 690 + j.val ∧ 690 + j.val < 696) (by omega),
    ind_out (p := 690 + j.val = 696) (by omega),
    ind_neg (p := 690 + j.val = 696) (by omega)]
  simp only [zero_mul, zero_add, add_zero, Nat.add_sub_cancel_left]

theorem pd_last : pd T (ix2 ⟨696, by omega⟩ n) = ind (c.val = 63 + n.val / 78) + atD (rowAt T) c := by
  rw [pd_form T _ n c h, decWord_wd (by dsimp only; omega) (by omega) (by omega)]
  dsimp only
  rw [ind_out (p := 696 < 60) (by omega),
    ind_out (p := 60 ≤ 696 ∧ 696 < 270) (by omega),
    ind_out (p := 270 ≤ 696 ∧ 696 < 480) (by omega),
    ind_out (p := 480 ≤ 696 ∧ 696 < 690) (by omega),
    ind_out (p := 690 ≤ 696 ∧ 696 < 696) (by omega),
    ind_in (p := 696 = 696) (by omega),
    ind_pos (p := 696 = 696) (by omega)]
  simp only [zero_mul, zero_add, one_mul]

end RowsD

end Cert.Proof

end
-- ==== Proof.Dots.lean ====
/- What a row of inputs times an expansion matrix is: one cell of the kernel's two products. -/
module

public import proofs.«01_k».proof.Proof.Sums

@[expose] public section

set_option maxRecDepth 16384

noncomputable section

namespace Cert.Proof

open Idealize.ShloMosaic Idealize.SL.Sem
open Cert.KernelIdeal Cert.KernelIdeal.Gen

variable (T : Tables)

theorem atE_in (f : Fin 50 → EReal) (c : Fin 64) (h : 14 ≤ c.val) : atE f c = f ⟨c - 14, by omega⟩ := dif_pos ⟨h, by omega⟩
theorem atE_out (f : Fin 50 → EReal) (c : Fin 64) (h : ¬14 ≤ c.val) : atE f c = 0 := dif_neg (by omega)
theorem atD_in (f : Fin 50 → EReal) (c : Fin 78) (h : 9 ≤ c.val ∧ c.val < 59) : atD f c = f ⟨c - 9, by omega⟩ := dif_pos ⟨h.1, by omega⟩
theorem atD_out (f : Fin 50 → EReal) (c : Fin 78) (h : ¬(9 ≤ c.val ∧ c.val < 59)) : atD f c = 0 := dif_neg (by omega)

/-- Row 0 plus the selected difference is the selected row. -/
theorem pick_row (w : BitVec 32) (hw : w = wd (sel w)) (c : Fin 50) :
    ind (w = 1#32) * difAt T 1 c + (ind (w = 2#32) * difAt T 2 c + 1 * rowAt T c) = emb T (fun _ => sel w) c := by
  obtain ⟨a, ha⟩ := emb_real T (fun _ => 0) c
  obtain ⟨b, hb⟩ := emb_real T (fun _ => 1) c
  obtain ⟨d, hd⟩ := emb_real T (fun _ => 2) c
  unfold difAt rowAt
  by_cases h1 : w = 1#32
  · have e : sel w = 1 := by rw [h1]; rfl
    rw [ind_pos h1, ind_neg (by rw [h1]; decide), e, ha, hb, hd]
    exact pick_one a b d
  · by_cases h2 : w = 2#32
    · have e : sel w = 2 := by rw [h2]; rfl
      rw [ind_neg h1, ind_pos h2, e, ha, hb, hd]
      exact pick_two a b d
    · have e : sel w = 0 := by rw [sel, if_neg h1, if_neg h2]
      rw [ind_neg h1, ind_neg h2, e, ha, hb, hd]
      exact pick_zero a b d

section Cells

variable (x1 : FVec Ideal S512x6 .f32) (one : FVec Ideal S512x1 .f32)

theorem encDot_cell (xr : FVec Ideal S512x32 .f32) (v0 v1 v2 : FVec Ideal S512x112 .f32) (r n : Fin 512) (c : Fin 64)
    (h : c.val = n.val % 64) (ho : one (ix2 r 0) = 1) :
    encDot x1 one xr v0 v1 v2 (pe T) (ix2 r n)
      = if h : c.val < 4 then xr (ix2 r ⟨4 * (n / 64) + c, by omega⟩)
        else if h1 : c.val < 10 then x1 (ix2 r ⟨c - 4, by omega⟩)
        else if h2 : c.val < 14 then v0 (ix2 r ⟨14 * (n / 64) + (c - 10), by omega⟩)
        else v1 (ix2 r ⟨14 * (n / 64) + 4 + (own (c - 14)).val, by omega⟩) * difAt T 1 ⟨c - 14, by omega⟩
          + (v2 (ix2 r ⟨14 * (n / 64) + 4 + (own (c - 14)).val, by omega⟩) * difAt T 2 ⟨c - 14, by omega⟩
            + 1 * rowAt T ⟨c - 14, by omega⟩) := by
  rw [encDot_apply, ho, pe_last T n c h]
  simp only [pe_real T n c h, pe_int T n c h, pe_one1 T n c h, pe_two T n c h, pe_shr T n c h]
  by_cases h14 : 14 ≤ c.val
  · have hq : ownE c = wd (own (c - 14)).val := if_pos h14
    rw [dif_neg (by omega), dif_neg (by omega), dif_neg (by omega), real_out _ (by omega), int_out _ (by omega), shr_out _ (by omega),
      emb_in (s := n / 64) _ (by omega) (own (c - 14)).isLt hq, emb_in (s := n / 64) _ (by omega) (own (c - 14)).isLt hq,
      atE_in _ c h14, atE_in _ c h14, atE_in _ c h14]
    simp only [zero_add]
  · rw [atE_out _ c h14, atE_out _ c h14, atE_out _ c h14, emb_out, emb_out, mul_zero]
    simp only [zero_add, add_zero]
    by_cases h4 : c.val < 4
    · rw [dif_pos h4, real_in _ (by omega) h4, int_out _ (by omega), shr_out _ (by omega), add_zero, add_zero]
    · rw [dif_neg h4, real_out _ h4]
      by_cases h10 : c.val < 10
      · rw [dif_pos h10, int_out _ (by omega), shr_in _ (by omega), zero_add, zero_add]
      · rw [dif_neg h10, dif_pos (by omega), int_in _ (by omega) (by omega), shr_out _ (by omega), zero_add, add_zero]

theorem decDot_cell (xr : FVec Ideal S512x60 .f32) (v0 v1 v2 : FVec Ideal S512x210 .f32) (r : Fin 512) (n : Fin 1170) (c : Fin 78)
    (h : c.val = n.val % 78) (ho : one (ix2 r 0) = 1) :
    decDot x1 one xr v0 v1 v2 (pd T) (ix2 r n)
      = if h : c.val < 3 then xr (ix2 r ⟨4 * (n / 78) + (if c.val = 2 then 3 else c.val), by split <;> omega⟩)
        else if h1 : c.val < 9 then x1 (ix2 r ⟨c - 3, by omega⟩)
        else if h2 : c.val < 59 then
          v1 (ix2 r ⟨14 * (n / 78) + 4 + (own (c - 9)).val, by omega⟩) * difAt T 1 ⟨c - 9, by omega⟩
          + (v2 (ix2 r ⟨14 * (n / 78) + 4 + (own (c - 9)).val, by omega⟩) * difAt T 2 ⟨c - 9, by omega⟩
            + 1 * rowAt T ⟨c - 9, by omega⟩)
        else if h3 : c.val < 63 then v0 (ix2 r ⟨14 * (n / 78) + (c - 59), by omega⟩)
        else ind (c.val = 63 + n / 78) := by
  rw [decDot_apply, ho, pd_last T n c h]
  simp only [pd_real T n c h, pd_int T n c h, pd_one1 T n c h, pd_two T n c h, pd_shr T n c h]
  by_cases h9 : 9 ≤ c.val ∧ c.val < 59
  · have hq : ownD c = wd (own (c - 9)).val := if_pos h9
    rw [dif_neg (by omega), dif_neg (by omega), dif_pos (by omega), sel_out _ (by omega), int_out _ (by omega), shr_out _ (by omega),
      emb_in (s := n / 78) _ (by omega) (own (c - 9)).isLt hq, emb_in (s := n / 78) _ (by omega) (own (c - 9)).isLt hq,
      atD_in _ c h9, atD_in _ c h9, atD_in _ c h9, ind_neg (by omega)]
    simp only [zero_add]
  · rw [atD_out _ c h9, atD_out _ c h9, atD_out _ c h9, emb_out, emb_out, one_mul]
    simp only [zero_add, add_zero]
    by_cases h3 : c.val < 3
    · rw [dif_pos h3, sel_in _ (by omega) h3, int_out _ (by omega), shr_out _ (by omega), ind_neg (by omega), add_zero, add_zero, add_zero]
    · rw [dif_neg h3, sel_out _ h3]
      by_cases h10 : c.val < 9
      · rw [dif_pos h10, int_out _ (by omega), shr_in _ (by omega), ind_neg (by omega), zero_add, zero_add, add_zero]
      · rw [dif_neg h10, dif_neg (by omega), shr_out _ (by omega)]
        by_cases h63 : c.val < 63
        · rw [dif_pos h63, int_in _ (by omega) (by omega), ind_neg (by omega), zero_add, add_zero, add_zero]
        · rw [dif_neg h63, int_out _ (by omega), zero_add, zero_add, zero_add]

end Cells

end Cert.Proof

end
-- ==== Proof.Block.lean ====
/- The two output blocks the second kernel stores, from the blocks it reads. -/
module

public import proofs.«01_k».proof.Proof.Dots
public import Idealize.ShloMosaic.Lib.Pipeline.ValueKit.Tiles

@[expose] public section

set_option maxRecDepth 16384

noncomputable section

namespace Cert.Proof

open Idealize.ShloMosaic Idealize.SL.Sem
open Cert.KernelIdeal Cert.KernelIdeal.Gen

section Words

variable (v : IVec S512x994 32) (r : Fin 512) (j : Fin 994)

theorem ofBits_two : Ideal.ofBits .f32 0x40000000#32 = ((2 : ℝ) : EReal) := by
  simp [Ideal.ofBits, Ideal.ieee, -EReal.coe_mul]; norm_num

/-- Comparing an integer's float with a small integer compares the words. -/
theorem toR_eq (w k : BitVec 32) : toR w = ((k.toInt : ℝ) : EReal) ↔ w = k := by
  unfold toR
  rw [EReal.coe_eq_coe_iff, Int.cast_inj, BitVec.toInt_inj]

/-- The float of a comparison's bit is 0 or 1. -/
theorem bit_ind (p : Prop) [Decidable p] :
    (FloatOps.sitofp (F := Ideal) .f32 (BitVec.setWidth 32 (BitVec.ofBool (decide p))) : EReal) = ind p := by
  by_cases h : p
  · rw [ind_pos h, decide_eq_true h]
    have e : (BitVec.setWidth 32 (BitVec.ofBool true)).toInt = 1 := by decide
    show (((BitVec.setWidth 32 (BitVec.ofBool true)).toInt : ℝ) : EReal) = 1
    rw [e]
    norm_num
  · rw [ind_neg h, decide_eq_false h]
    have e : (BitVec.setWidth 32 (BitVec.ofBool false)).toInt = 0 := by decide
    show (((BitVec.setWidth 32 (BitVec.ofBool false)).toInt : ℝ) : EReal) = 0
    rw [e]
    norm_num

theorem ind_congr {p q : Prop} [Decidable p] [Decidable q] (h : p ↔ q) : ind p = ind q := by
  unfold ind
  simp only [h]

theorem pay4_apply : k1_pay4 (F := Ideal) v (ix2 r j) = toR (v (ix2 r j)) := by
  pointwise [k1_pay4]
  rfl

theorem pay5_apply : k1_pay5 (F := Ideal) v (ix2 r j) = ind (v (ix2 r j) = 1#32) := by
  pointwise [k1_pay5, k1_pay4]
  refine (bit_ind _).trans (ind_congr ?_)
  have e' : (1#32 : BitVec 32).toInt = 1 := by decide
  have e : (((1#32 : BitVec 32).toInt : ℝ) : EReal) = 1 := by rw [e']; norm_num
  rw [← e]
  exact toR_eq _ _

theorem pay6_apply : k1_pay6 (F := Ideal) v (ix2 r j) = ind (v (ix2 r j) = 2#32) := by
  pointwise [k1_pay6, k1_pay4]
  refine (bit_ind _).trans (ind_congr ?_)
  have e' : (2#32 : BitVec 32).toInt = 2 := by decide
  have e : (((2#32 : BitVec 32).toInt : ℝ) : EReal) = Ideal.ofBits .f32 0x40000000#32 := by rw [e', ofBits_two]; norm_num
  rw [← e]
  exact toR_eq _ _

end Words

/-- Where column `c` of time `t` lies in a row of the real inputs. -/
def at4 (t : Fin 71) (c : Fin 4) : Fin 284 := ⟨4 * t + c, by omega⟩
/-- Where column `c` of time `t` lies in a row of the integer inputs. -/
def at14 (t : Fin 71) (c : Fin 14) : Fin 994 := ⟨14 * t + c, by omega⟩

section Blocks

variable (X : (colS 4).Idx → EReal) (XD : batS.Idx → EReal) (XI : (colS 14).Idx → BitVec 32) (T : Tables) (hI : InRange XI)
variable (row : Fin 512 → Fin 4096)
variable (x0 : FVec Ideal S512x284 .f32) (x1 : FVec Ideal S512x6 .f32) (x2 : IVec S512x994 32)
variable (h0 : ∀ (r : Fin 512) (t : Fin 71) (c : Fin 4), x0 (ix2 r (at4 t c)) = X (ix3 (row r) t c))
variable (h1 : ∀ (r : Fin 512) (c : Fin 6), x1 (ix2 r c) = XD (ix2 (row r) c))
variable (h2 : ∀ (r : Fin 512) (t : Fin 71) (c : Fin 14), x2 (ix2 r (at14 t c)) = XI (ix3 (row r) t c))
include hI h0 h1 h2

/-- Group `g` of eight steps of the encoder's block. -/
theorem enc_group (g : ℕ) (hg : g < 7) (b1 : FVec Ideal S512x6 .f32) (one : FVec Ideal S512x1 .f32) (xr : FVec Ideal S512x32 .f32)
    (v0 v1 v2 : FVec Ideal S512x112 .f32) (p : FVec Ideal S375x512 .f32)
    (hb : ∀ (r : Fin 512) (j : Fin 6), b1 (ix2 r j) = x1 (ix2 r j)) (ho : ∀ r : Fin 512, one (ix2 r 0) = 1)
    (hr : ∀ (r : Fin 512) (j : Fin 32), xr (ix2 r j) = x0 (ix2 r ⟨32 * g + j, by omega⟩))
    (hv0 : ∀ (r : Fin 512) (j : Fin 112), v0 (ix2 r j) = toR (x2 (ix2 r ⟨112 * g + j, by omega⟩)))
    (hv1 : ∀ (r : Fin 512) (j : Fin 112), v1 (ix2 r j) = ind (x2 (ix2 r ⟨112 * g + j, by omega⟩) = 1#32))
    (hv2 : ∀ (r : Fin 512) (j : Fin 112), v2 (ix2 r j) = ind (x2 (ix2 r ⟨112 * g + j, by omega⟩) = 2#32))
    (hp : p = pe T) (r n : Fin 512) :
    encDot b1 one xr v0 v1 v2 p (ix2 r n) = encAt X XD XI T (row r) ⟨8 * g + n / 64, by omega⟩ ⟨n % 64, by omega⟩ := by
  subst hp
  have hx (t : Fin 71) (c : Fin 14) (k : ℕ) (hk : k < 994) (e : k = 14 * t + c) : x2 (ix2 r ⟨k, hk⟩) = XI (ix3 (row r) t c) := by
    subst e; exact h2 r t c
  have hx0 (t : Fin 71) (c : Fin 4) (k : ℕ) (hk : k < 284) (e : k = 4 * t + c) : x0 (ix2 r ⟨k, hk⟩) = X (ix3 (row r) t c) := by
    subst e; exact h0 r t c
  rw [encDot_cell T b1 one xr v0 v1 v2 r n ⟨n % 64, by omega⟩ rfl (ho r)]
  unfold encAt
  dsimp only
  split
  · rw [hr]
    exact hx0 _ _ _ _ (by simp only [Fin.val_castLE]; omega)
  split
  · rw [hb]
    exact h1 _ _
  split
  · rw [hv0]
    exact congrArg toR (hx _ _ _ _ (by simp only [Fin.val_castLE]; omega))
  · rw [hv1, hv2, emb_own,
      hx (Fin.castLE (by decide) (⟨8 * g + n / 64, by omega⟩ : Fin 56)) ((own (n % 64 - 14)).natAdd 4) _ _
        (by simp only [Fin.val_castLE, Fin.val_natAdd]; omega)]
    exact pick_row T _ (hI _ _ _) _

/-- The fifteen steps of the decoder's block. -/
theorem dec_group (b1 : FVec Ideal S512x6 .f32) (one : FVec Ideal S512x1 .f32) (xr : FVec Ideal S512x60 .f32)
    (v0 v1 v2 : FVec Ideal S512x210 .f32) (p : FVec Ideal S697x1170 .f32)
    (hb : ∀ (r : Fin 512) (j : Fin 6), b1 (ix2 r j) = x1 (ix2 r j)) (ho : ∀ r : Fin 512, one (ix2 r 0) = 1)
    (hr : ∀ (r : Fin 512) (j : Fin 60), xr (ix2 r j) = x0 (ix2 r ⟨224 + j, by omega⟩))
    (hv0 : ∀ (r : Fin 512) (j : Fin 210), v0 (ix2 r j) = toR (x2 (ix2 r ⟨784 + j, by omega⟩)))
    (hv1 : ∀ (r : Fin 512) (j : Fin 210), v1 (ix2 r j) = ind (x2 (ix2 r ⟨784 + j, by omega⟩) = 1#32))
    (hv2 : ∀ (r : Fin 512) (j : Fin 210), v2 (ix2 r j) = ind (x2 (ix2 r ⟨784 + j, by omega⟩) = 2#32))
    (hp : p = pd T) (r : Fin 512) (n : Fin 1170) :
    decDot b1 one xr v0 v1 v2 p (ix2 r n) = decAt X XD XI T (row r) ⟨n / 78, by omega⟩ ⟨n % 78, by omega⟩ := by
  subst hp
  have hx (t : Fin 71) (c : Fin 14) (k : ℕ) (hk : k < 994) (e : k = 14 * t + c) : x2 (ix2 r ⟨k, hk⟩) = XI (ix3 (row r) t c) := by
    subst e; exact h2 r t c
  have hx0 (t : Fin 71) (c : Fin 4) (k : ℕ) (hk : k < 284) (e : k = 4 * t + c) : x0 (ix2 r ⟨k, hk⟩) = X (ix3 (row r) t c) := by
    subst e; exact h0 r t c
  rw [decDot_cell T b1 one xr v0 v1 v2 r n ⟨n % 78, by omega⟩ rfl (ho r)]
  unfold decAt
  dsimp only
  by_cases h2' : n.val % 78 < 2
  · rw [dif_pos (by omega), dif_pos h2', hr]
    exact hx0 _ _ _ _ (by simp only [Fin.val_natAdd]; rw [if_neg (by omega)]; omega)
  rw [dif_neg h2']
  by_cases h3 : n.val % 78 < 3
  · rw [dif_pos h3, dif_pos h3, hr]
    exact hx0 _ 3 _ _ (by simp only [Fin.val_natAdd]; rw [if_pos (by omega)]; show _ = 4 * (56 + n.val / 78) + 3; omega)
  rw [dif_neg h3, dif_neg h3]
  split
  · rw [hb]
    exact h1 _ _
  split
  · rw [hv1, hv2, emb_own,
      hx (Fin.natAdd 56 (⟨n / 78, by omega⟩ : Fin 15)) ((own (n % 78 - 9)).natAdd 4) _ _
        (by simp only [Fin.val_natAdd]; omega)]
    exact pick_row T _ (hI _ _ _) _
  split
  · rw [hv0]
    exact congrArg toR (hx _ _ _ _ (by simp only [Fin.val_natAdd]; omega))
  · exact if_congr (by omega) rfl rfl

end Blocks

/-- A tile of 512 columns holds a function of the row and the column where its cells do. -/
theorem tile_of (f : Fin 512 → Fin 3584 → EReal) (g : ℕ) (hg : g < 7) (w : FVec Ideal S512x512 .f32)
    (h : ∀ r n : Fin 512, w (ix2 r n) = f r ⟨512 * g + n, by omega⟩) (r : Fin 512) (N : Fin 3584) (off : Fin 2 → ℕ)
    (hoff : off = ![0, 512 * g]) :
    View.TileAt (Val := Elt Ideal) (e := .f32) (ix2 r N : S512x3584.Idx) off S512x512.size w (f r N) := by
  subst hoff
  intro y hy
  have e0 : r.val = 0 + (y 0).val := hy 0
  have e1 : N.val = 512 * g + (y 1).val := hy 1
  have a : y = ix2 (y 0) (y 1) := by idx_ext
  refine (congrArg w a).trans ((h (y 0) (y 1)).trans ?_)
  exact congrArg₂ f (Fin.ext (by omega)) (Fin.ext (by dsimp only; omega))

section Tile

variable (X : (colS 4).Idx → EReal) (XD : batS.Idx → EReal) (XI : (colS 14).Idx → BitVec 32) (T : Tables) (hI : InRange XI)
variable (row : Fin 512 → Fin 4096)
variable (x0 : FVec Ideal S512x284 .f32) (x1 : FVec Ideal S512x6 .f32) (x2 : IVec S512x994 32)
variable (h0 : ∀ (r : Fin 512) (t : Fin 71) (c : Fin 4), x0 (ix2 r (at4 t c)) = X (ix3 (row r) t c))
variable (h1 : ∀ (r : Fin 512) (c : Fin 6), x1 (ix2 r c) = XD (ix2 (row r) c))
variable (h2 : ∀ (r : Fin 512) (t : Fin 71) (c : Fin 14), x2 (ix2 r (at14 t c)) = XI (ix3 (row r) t c))
include hI h0 h1 h2

/-- Group `g` of eight steps as a tile of the encoder's block. -/
theorem enc_tile (g : ℕ) (hg : g < 7) (b1 : FVec Ideal S512x6 .f32) (one : FVec Ideal S512x1 .f32) (xr : FVec Ideal S512x32 .f32)
    (v0 v1 v2 : FVec Ideal S512x112 .f32) (p : FVec Ideal S375x512 .f32)
    (hb : ∀ (r : Fin 512) (j : Fin 6), b1 (ix2 r j) = x1 (ix2 r j)) (ho : ∀ r : Fin 512, one (ix2 r 0) = 1)
    (hr : ∀ (r : Fin 512) (j : Fin 32), xr (ix2 r j) = x0 (ix2 r ⟨32 * g + j, by omega⟩))
    (hv0 : ∀ (r : Fin 512) (j : Fin 112), v0 (ix2 r j) = toR (x2 (ix2 r ⟨112 * g + j, by omega⟩)))
    (hv1 : ∀ (r : Fin 512) (j : Fin 112), v1 (ix2 r j) = ind (x2 (ix2 r ⟨112 * g + j, by omega⟩) = 1#32))
    (hv2 : ∀ (r : Fin 512) (j : Fin 112), v2 (ix2 r j) = ind (x2 (ix2 r ⟨112 * g + j, by omega⟩) = 2#32))
    (hp : p = pe T) (r : Fin 512) (N : Fin 3584) (off : Fin 2 → ℕ) (hoff : off = ![0, 512 * g]) :
    View.TileAt (Val := Elt Ideal) (e := .f32) (ix2 r N : S512x3584.Idx) off S512x512.size (encDot b1 one xr v0 v1 v2 p)
      (encAt X XD XI T (row r) ⟨N / 64, by omega⟩ ⟨N % 64, by omega⟩) :=
  tile_of (fun r N => encAt X XD XI T (row r) ⟨N / 64, by omega⟩ ⟨N % 64, by omega⟩) g hg _
    (fun r n => (enc_group X XD XI T hI row x0 x1 x2 h0 h1 h2 g hg b1 one xr v0 v1 v2 p hb ho hr hv0 hv1 hv2 hp r n).trans
      (congrArg₂ (encAt X XD XI T (row r)) (Fin.ext (by dsimp only; omega)) (Fin.ext (by dsimp only; omega)))) r N off hoff

end Tile

end Cert.Proof

end
-- ==== Proof.Outs.lean ====
/- The second kernel's two output blocks, cell by cell. -/
module

public import proofs.«01_k».proof.Proof.Block

@[expose] public section

set_option maxRecDepth 16384

noncomputable section

namespace Cert.Proof

open Idealize.ShloMosaic Idealize.SL.Sem
open Cert.KernelIdeal Cert.KernelIdeal.Gen

variable (X : (colS 4).Idx → EReal) (XD : batS.Idx → EReal) (XI : (colS 14).Idx → BitVec 32) (T : Tables) (hI : InRange XI)
variable (row : Fin 512 → Fin 4096)
variable (x0 : FVec Ideal S512x284 .f32) (x1 : FVec Ideal S512x6 .f32) (x2 : IVec S512x994 32)
variable (h0 : ∀ (r : Fin 512) (t : Fin 71) (c : Fin 4), x0 (ix2 r (at4 t c)) = X (ix3 (row r) t c))
variable (h1 : ∀ (r : Fin 512) (c : Fin 6), x1 (ix2 r c) = XD (ix2 (row r) c))
variable (h2 : ∀ (r : Fin 512) (t : Fin 71) (c : Fin 14), x2 (ix2 r (at14 t c)) = XI (ix3 (row r) t c))

/-- A load of a whole block is the block. -/
theorem ld_x2 : View.ld (Val := Elt Ideal) (e' := .i32) x2 r1_1 = x2 := View.ld_unit_lit _ _ (by decide)
theorem ld_pe (p : FVec Ideal S375x512 .f32) : k1_pay7 (F := Ideal) (View.ld (Val := Elt Ideal) (e' := .f32) p r1_2) = p := by
  funext i
  idx_vars i
  pointwise [k1_pay7]
theorem ld_pd (p : FVec Ideal S697x1170 .f32) : k1_pay8 (F := Ideal) (View.ld (Val := Elt Ideal) (e' := .f32) p r1_3) = p := by
  funext i
  idx_vars i
  pointwise [k1_pay8]
theorem ones (r : Fin 512) : k1_pay3 (F := Ideal) (ix2 r 0) = 1 := by pointwise [k1_pay3]

include hI h0 h1 h2 in
theorem out5 (x4 : FVec Ideal S697x1170 .f32) (r : Fin 512) (N : Fin 3584) :
    out1_5 (F := Ideal) x0 x1 x2 (pe T) x4 (ix2 r N) = encAt X XD XI T (row r) ⟨N / 64, by omega⟩ ⟨N % 64, by omega⟩ := by
  unfold out1_5
  refine View.canon_eq_of_allAt _ _ _ (cover1_5 _ _ _ _ _ _ _ _) ?_
  have tile := enc_tile X XD XI T hI row x0 x1 x2 h0 h1 h2
  refine
    (View.allAt_cons_unit _ _ _ _ _ (tile 6 (by omega) _ _ _ _ _ _ _ (fun r j => ?_) ones (fun r j => ?_) (fun r j => ?_) (fun r j => ?_) (fun r j => ?_) (ld_pe _) r N _ rfl)
    (View.allAt_cons_unit _ _ _ _ _ (tile 5 (by omega) _ _ _ _ _ _ _ (fun r j => ?_) ones (fun r j => ?_) (fun r j => ?_) (fun r j => ?_) (fun r j => ?_) (ld_pe _) r N _ rfl)
    (View.allAt_cons_unit _ _ _ _ _ (tile 4 (by omega) _ _ _ _ _ _ _ (fun r j => ?_) ones (fun r j => ?_) (fun r j => ?_) (fun r j => ?_) (fun r j => ?_) (ld_pe _) r N _ rfl)
    (View.allAt_cons_unit _ _ _ _ _ (tile 3 (by omega) _ _ _ _ _ _ _ (fun r j => ?_) ones (fun r j => ?_) (fun r j => ?_) (fun r j => ?_) (fun r j => ?_) (ld_pe _) r N _ rfl)
    (View.allAt_cons_unit _ _ _ _ _ (tile 2 (by omega) _ _ _ _ _ _ _ (fun r j => ?_) ones (fun r j => ?_) (fun r j => ?_) (fun r j => ?_) (fun r j => ?_) (ld_pe _) r N _ rfl)
    (View.allAt_cons_unit _ _ _ _ _ (tile 1 (by omega) _ _ _ _ _ _ _ (fun r j => ?_) ones (fun r j => ?_) (fun r j => ?_) (fun r j => ?_) (fun r j => ?_) (ld_pe _) r N _ rfl)
    (View.allAt_cons_unit _ _ _ _ _ (tile 0 (by omega) _ _ _ _ _ _ _ (fun r j => ?_) ones (fun r j => ?_) (fun r j => ?_) (fun r j => ?_) (fun r j => ?_) (ld_pe _) r N _ rfl)
    (View.allAt_nil _ _))))))))
  all_goals first
    | pointwise; done
    | pointwise [k1_pay15]; done
    | (pointwise [k1_pay16, k1_pay20]; rw [ld_x2, pay4_apply])
    | (pointwise [k1_pay17, k1_pay21]; rw [ld_x2, pay5_apply])
    | (pointwise [k1_pay18, k1_pay22]; rw [ld_x2, pay6_apply])

include hI h0 h1 h2 in
theorem out6 (x3 : FVec Ideal S375x512 .f32) (r : Fin 512) (N : Fin 1170) :
    out1_6 (F := Ideal) x0 x1 x2 x3 (pd T) (ix2 r N) = decAt X XD XI T (row r) ⟨N / 78, by omega⟩ ⟨N % 78, by omega⟩ := by
  unfold out1_6
  rw [View.canon_cons_unit_lit _ _ _ (by decide)]
  refine dec_group X XD XI T hI row x0 x1 x2 h0 h1 h2 _ _ _ _ _ _ _
    (fun r j => ?_) ones (fun r j => ?_) (fun r j => ?_) (fun r j => ?_) (fun r j => ?_) (ld_pd _) r N
  all_goals first
    | pointwise; done
    | (pointwise [k1_pay20]; rw [ld_x2, pay4_apply])
    | (pointwise [k1_pay21]; rw [ld_x2, pay5_apply])
    | (pointwise [k1_pay22]; rw [ld_x2, pay6_apply])

end Cert.Proof

end
-- ==== Proof.KernelRun.lean ====
/- The kernel's run with every buffer it leaves: each unscoped buffer ends at the value the launch's segments fold to. -/
module

public import proofs.«01_k».proof.Proof.Gen.KernelIdeal.Frame
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one
set_option backward.isDefEq.respectTransparency.types false in
/-- Every weakly fair execution ends with the two results and the arguments at the last boundary's contents. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v4 (by decide)), h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.Proof

end
-- ==== Proof.Arrays.lean ====
/- The arrays the two kernels leave, and the kernel's two results. -/
module

public import proofs.«01_k».proof.Proof.Outs
public import proofs.«01_k».proof.Proof.KernelRun
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The ten tables as launched. -/
def tabs : Tables := ⟨m ((c : Thread nD τ).loc main_arg3), m ((c : Thread nD τ).loc main_arg4), m ((c : Thread nD τ).loc main_arg5),
  m ((c : Thread nD τ).loc main_arg6), m ((c : Thread nD τ).loc main_arg7), m ((c : Thread nD τ).loc main_arg8),
  m ((c : Thread nD τ).loc main_arg9), m ((c : Thread nD τ).loc main_arg10), m ((c : Thread nD τ).loc main_arg11),
  m ((c : Thread nD τ).loc main_arg12)⟩

/-- Every window of the first kernel is its whole array. -/
theorem idx0 : ∀ (t : Fin cfg0.N) (w : Fin cfg0.W) (a : Fin (cfg0.win w).shape.rank), (cfg0.win w).index t a = 0 := by
  decide +kernel

theorem emb0 (t : Fin cfg0.N) (w : Fin cfg0.W) (j : ((cfg0.win w).xblock (cfg0.grid.coords t)).Idx) (a : Fin (cfg0.win w).shape.rank) :
    (((cfg0.win w).rect t).emb j a : ℕ) = j a :=
  (cfg0.win w).rect_emb_val_of_index_zero t a (idx0 t w a) j

theorem tab0 (t : Fin cfg0.N) : iblk0 (V0 m ρ) c 0 t = (tabs m c).t0 :=
  funext fun j => congrArg (m ((c : Thread nD τ).loc main_arg3)) (funext fun a => Fin.ext (emb0 t 0 j a))
theorem tab1 (t : Fin cfg0.N) : iblk0 (V0 m ρ) c 1 t = (tabs m c).t1 :=
  funext fun j => congrArg (m ((c : Thread nD τ).loc main_arg4)) (funext fun a => Fin.ext (emb0 t 1 j a))
theorem tab2 (t : Fin cfg0.N) : iblk0 (V0 m ρ) c 2 t = (tabs m c).t2 :=
  funext fun j => congrArg (m ((c : Thread nD τ).loc main_arg5)) (funext fun a => Fin.ext (emb0 t 2 j a))
theorem tab3 (t : Fin cfg0.N) : iblk0 (V0 m ρ) c 3 t = (tabs m c).t3 :=
  funext fun j => congrArg (m ((c : Thread nD τ).loc main_arg6)) (funext fun a => Fin.ext (emb0 t 3 j a))
theorem tab4 (t : Fin cfg0.N) : iblk0 (V0 m ρ) c 4 t = (tabs m c).t4 :=
  funext fun j => congrArg (m ((c : Thread nD τ).loc main_arg7)) (funext fun a => Fin.ext (emb0 t 4 j a))
theorem tab5 (t : Fin cfg0.N) : iblk0 (V0 m ρ) c 5 t = (tabs m c).t5 :=
  funext fun j => congrArg (m ((c : Thread nD τ).loc main_arg8)) (funext fun a => Fin.ext (emb0 t 5 j a))
theorem tab6 (t : Fin cfg0.N) : iblk0 (V0 m ρ) c 6 t = (tabs m c).t6 :=
  funext fun j => congrArg (m ((c : Thread nD τ).loc main_arg9)) (funext fun a => Fin.ext (emb0 t 6 j a))
theorem tab7 (t : Fin cfg0.N) : iblk0 (V0 m ρ) c 7 t = (tabs m c).t7 :=
  funext fun j => congrArg (m ((c : Thread nD τ).loc main_arg10)) (funext fun a => Fin.ext (emb0 t 7 j a))
theorem tab8 (t : Fin cfg0.N) : iblk0 (V0 m ρ) c 8 t = (tabs m c).t8 :=
  funext fun j => congrArg (m ((c : Thread nD τ).loc main_arg11)) (funext fun a => Fin.ext (emb0 t 8 j a))
theorem tab9 (t : Fin cfg0.N) : iblk0 (V0 m ρ) c 9 t = (tabs m c).t9 :=
  funext fun j => congrArg (m ((c : Thread nD τ).loc main_arg12)) (funext fun a => Fin.ext (emb0 t 9 j a))

theorem pe_arr : (dat0 (V0 m ρ) c).arrAt 10 cfg0.N = pe (tabs m c) := by
  refine (dat0 (V0 m ρ) c).arrAt_eq_of_covers 10 _ (by decide +kernel) fun t hf y => ?_
  blk_simp
  rw [after0_10, tab0, tab1, tab2, tab3, tab4, tab5, tab6, tab7, tab8, tab9]
  exact congrArg (pe (tabs m c)) (funext fun a => Fin.ext (emb0 t 10 y a).symm)

theorem pd_arr : (dat0 (V0 m ρ) c).arrAt 11 cfg0.N = pd (tabs m c) := by
  refine (dat0 (V0 m ρ) c).arrAt_eq_of_covers 11 _ (by decide +kernel) fun t hf y => ?_
  blk_simp
  rw [after0_11, tab0, tab1, tab2, tab3, tab4, tab5, tab6, tab7, tab8, tab9]
  exact congrArg (pd (tabs m c)) (funext fun a => Fin.ext (emb0 t 11 y a).symm)

/-- The reals, the batch columns and the integers as launched. -/
def reals : FVec Ideal S4096x71x4 .f32 := m ((c : Thread nD τ).loc main_arg0)
def batch : FVec Ideal S4096x6 .f32 := m ((c : Thread nD τ).loc main_arg1)
def ints : IVec S4096x71x14 32 := m ((c : Thread nD τ).loc main_arg2)

theorem x_in : V2 m ρ c main_v1 = shapeCast S4096x284 (reals m c) shapeCasts_S4096x71x4_S4096x284 := by
  show StableHlo.after hostOps1 (W1 m ρ c) (Proc.devRef .tc main_v1) = _
  after_results
  rw [W1_args m ρ c main_arg0 (by decide)]
  rfl

theorem xi_in : V2 m ρ c main_v2 = shapeCast S4096x994 (ints m c) shapeCasts_S4096x71x14_S4096x994 := by
  show StableHlo.after hostOps1 (W1 m ρ c) (Proc.devRef .tc main_v2) = _
  after_results
  rw [W1_args m ρ c main_arg2 (by decide)]
  rfl

theorem xd_in : V2 m ρ c main_arg1 = batch m c := W2_args m ρ c main_arg1 (by decide)

theorem pe_in : V2 m ρ c main_v0_0 = pe (tabs m c) :=
  (W2_of m ρ c main_v0_0 (by decide)).trans ((W1_arr m ρ c 10).trans (pe_arr m ρ c))

theorem pd_in : V2 m ρ c main_v0_1 = pd (tabs m c) :=
  (W2_of m ρ c main_v0_1 (by decide)).trans ((W1_arr m ρ c 11).trans (pd_arr m ρ c))

end Cert.Proof

end
-- ==== Proof.Results.lean ====
/- The second kernel's output arrays and the launch's two results, index by index. -/
module

public import proofs.«01_k».proof.Proof.Arrays

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

theorem pt_lt (t : Fin cfg1.N) : t.val < 8 := lt_of_lt_of_eq t.isLt N_1

/-- The batch row that row `r` of the block at point `t` is. -/
def rowOf (t : Fin cfg1.N) (r : Fin 512) : Fin 4096 := ⟨512 * t.val + r.val, by have := pt_lt t; omega⟩

/-- Where a block starts. Windows 3 and 4 are whole arrays; the others go down the batch 512 rows a point. -/
theorem start1 : ∀ (t : Fin cfg1.N) (w : Fin cfg1.W) (a : Fin (cfg1.win w).shape.rank),
    (cfg1.win w).index t a * (cfg1.win w).size a = if w.val = 3 ∨ w.val = 4 then 0 else if a.val = 0 then 512 * t.val else 0 := by
  decide +kernel

theorem blocked1 : ∀ w : Fin cfg1.W, (cfg1.win w).kind = .blocked := by decide +kernel

theorem emb1 (t : Fin cfg1.N) (w : Fin cfg1.W) (y : ((cfg1.win w).xblock (cfg1.grid.coords t)).Idx) (a : Fin (cfg1.win w).shape.rank) :
    (((cfg1.win w).rect t).emb y a : ℕ)
      = (if w.val = 3 ∨ w.val = 4 then 0 else if a.val = 0 then 512 * t.val else 0) + y a := by
  rw [(cfg1.win w).rect_emb_val t y a (blocked1 w), start1]

/-- A pair of coordinates as an index of two axes, met axis by axis. -/
theorem row_idx {n : ℕ} (t : Fin cfg1.N) (r : Fin 512) (j : Fin n) (i : (⟨2, ![4096, n]⟩ : Shape).Idx)
    (h : ∀ a : Fin 2, (i a : ℕ) = (if a.val = 0 then 512 * t.val else 0) + (ix2 r j : (⟨2, ![512, n]⟩ : Shape).Idx) a) :
    i = ix2 (rowOf t r) j := by
  funext a
  apply Fin.ext
  match a with
  | ⟨0, _⟩ => exact h 0
  | ⟨1, _⟩ => exact (h 1).trans (Nat.zero_add _)

theorem blk_x (t : Fin cfg1.N) (r : Fin 512) (j : Fin 284) :
    iblk1 (V2 m ρ) c 0 t (ix2 r j) = shapeCast S4096x284 (reals m c) shapeCasts_S4096x71x4_S4096x284 (ix2 (rowOf t r) j) := by
  rw [← x_in m ρ c]
  exact congrArg (V2 m ρ c main_v1) (row_idx t r j _ (emb1 t 0 (ix2 r j)))

theorem blk_xd (t : Fin cfg1.N) (r : Fin 512) (j : Fin 6) :
    iblk1 (V2 m ρ) c 1 t (ix2 r j) = batch m c (ix2 (rowOf t r) j) := by
  rw [← xd_in m ρ c]
  exact congrArg (V2 m ρ c main_arg1) (row_idx t r j _ (emb1 t 1 (ix2 r j)))

theorem blk_xi (t : Fin cfg1.N) (r : Fin 512) (j : Fin 994) :
    iblk1 (V2 m ρ) c 2 t (ix2 r j) = shapeCast S4096x994 (ints m c) shapeCasts_S4096x71x14_S4096x994 (ix2 (rowOf t r) j) := by
  rw [← xi_in m ρ c]
  exact congrArg (V2 m ρ c main_v2) (row_idx t r j _ (emb1 t 2 (ix2 r j)))

theorem blk_pe (t : Fin cfg1.N) : iblk1 (V2 m ρ) c 3 t = pe (tabs m c) := by
  rw [← pe_in m ρ c]
  exact funext fun j => congrArg (V2 m ρ c main_v0_0) (funext fun a => Fin.ext ((emb1 t 3 j a).trans (Nat.zero_add _)))

theorem blk_pd (t : Fin cfg1.N) : iblk1 (V2 m ρ) c 4 t = pd (tabs m c) := by
  rw [← pd_in m ρ c]
  exact funext fun j => congrArg (V2 m ρ c main_v0_1) (funext fun a => Fin.ext ((emb1 t 4 j a).trans (Nat.zero_add _)))

/-- Rows of the flattened inputs. -/
theorem flat_x (R : Fin 4096) (t : Fin 71) (k : Fin 4) :
    shapeCast S4096x284 (reals m c) shapeCasts_S4096x71x4_S4096x284 (ix2 R (at4 t k)) = reals m c (ix3 R t k) := by
  unfold at4
  pointwise

theorem flat_xi (R : Fin 4096) (t : Fin 71) (k : Fin 14) :
    shapeCast S4096x994 (ints m c) shapeCasts_S4096x71x14_S4096x994 (ix2 R (at14 t k)) = ints m c (ix3 R t k) := by
  unfold at14
  pointwise

/-- What the encoder's array is to hold. -/
def encG : S4096x3584.Idx → EReal := fun i => encAt (reals m c) (batch m c) (ints m c) (tabs m c) (i 0)
  ⟨(i 1).val / 64, by have : (i 1).val < 3584 := (i 1).isLt; omega⟩ ⟨(i 1).val % 64, by omega⟩
/-- What the decoder's array is to hold. -/
def decG : S4096x1170.Idx → EReal := fun i => decAt (reals m c) (batch m c) (ints m c) (tabs m c) (i 0)
  ⟨(i 1).val / 78, by have : (i 1).val < 1170 := (i 1).isLt; omega⟩ ⟨(i 1).val % 78, by omega⟩

variable (hI : InRange (ints m c))
include hI

theorem enc_arr : (dat1 (V2 m ρ) c).arrAt 5 cfg1.N = encG m c := by
  refine (dat1 (V2 m ρ) c).arrAt_eq_of_covers 5 _ (by decide +kernel) fun t hf y => ?_
  blk_simp
  rw [after1_5, blk_pe]
  idx_vars y
  refine (out5 (reals m c) (batch m c) (ints m c) (tabs m c) hI (rowOf t) _ _ _
    (fun r k j => (blk_x m ρ c t r _).trans (flat_x m c _ k j)) (fun r j => blk_xd m ρ c t r j)
    (fun r k j => (blk_xi m ρ c t r _).trans (flat_xi m c _ k j)) _ y0 y1).trans ?_
  exact congrArg (encG m c) (row_idx t y0 y1 _ (emb1 t 5 (ix2 y0 y1))).symm

theorem dec_arr : (dat1 (V2 m ρ) c).arrAt 6 cfg1.N = decG m c := by
  refine (dat1 (V2 m ρ) c).arrAt_eq_of_covers 6 _ (by decide +kernel) fun t hf y => ?_
  blk_simp
  rw [after1_6, blk_pd]
  idx_vars y
  refine (out6 (reals m c) (batch m c) (ints m c) (tabs m c) hI (rowOf t) _ _ _
    (fun r k j => (blk_x m ρ c t r _).trans (flat_x m c _ k j)) (fun r j => blk_xd m ρ c t r j)
    (fun r k j => (blk_xi m ρ c t r _).trans (flat_xi m c _ k j)) _ y0 y1).trans ?_
  exact congrArg (decG m c) (row_idx t y0 y1 _ (emb1 t 6 (ix2 y0 y1))).symm

/-- The first result: the encoder's input. -/
theorem enc_res (R : Fin 4096) (t : Fin 56) (k : Fin 64) : W4 m ρ c (Proc.devRef .tc main_v4) (ix3 R t k)
    = encAt (reals m c) (batch m c) (ints m c) (tabs m c) R t k := by
  have h : W4 m ρ c (Proc.devRef .tc main_v4) = shapeCast S4096x56x64 (encG m c) shapeCasts_S4096x3584_S4096x56x64 := by
    show StableHlo.after hostOps2 (W3 m ρ c) (Proc.devRef .tc main_v4) = _
    after_results
    rw [← enc_arr m ρ c hI, ← W3_arr m ρ c 5]
    rfl
  rw [h]
  pointwise [encG]
  exact congrArg₂ (encAt _ _ _ _ R) (Fin.ext (by dsimp only; omega)) (Fin.ext (by dsimp only; omega))

/-- The second result: the decoder's input. -/
theorem dec_res (R : Fin 4096) (t : Fin 15) (k : Fin 78) : W4 m ρ c (Proc.devRef .tc main_v5) (ix3 R t k)
    = decAt (reals m c) (batch m c) (ints m c) (tabs m c) R t k := by
  have h : W4 m ρ c (Proc.devRef .tc main_v5) = shapeCast S4096x15x78 (decG m c) shapeCasts_S4096x1170_S4096x15x78 := by
    show StableHlo.after hostOps2 (W3 m ρ c) (Proc.devRef .tc main_v5) = _
    after_results
    rw [← dec_arr m ρ c hI, ← W3_arr m ρ c 6]
    rfl
  rw [h]
  pointwise [decG]
  exact congrArg₂ (decAt _ _ _ _ R) (Fin.ext (by dsimp only; omega)) (Fin.ext (by dsimp only; omega))

end Cert.Proof

end
-- ==== Proof.RefTake.lean ====
/- The reference's lookup in one embedding table, for a table of any size `N × D`: the row number is wrapped and
   checked against the table's height, the row gathered, and scaled down to a largest norm. Where the row number is
   0, 1 or 2 the result is that row of the table, scaled (`embRows_apply`). -/
module

public import proofs.«01_k».proof.Proof.Spec
public import proofs.«01_k».proof.Proof.Gen.ReferenceIdeal.Read
public import Idealize.ShloMosaic.Lib.Routing.Ops
public import Idealize.ShloMosaic.Lib.ReduceAll

@[expose] public section

set_option maxRecDepth 16384

noncomputable section

namespace Cert.Proof

open Idealize.ShloMosaic Idealize.ShloMosaic.StableHlo Idealize.SL.Sem
open Cert.ReferenceIdeal (S_ S1 S1x1x1 S4096x71 S4096x71x1)

variable {N D : ℕ}

/-- The shape of the rows looked up. -/
abbrev rowsS (D : ℕ) : Shape := ⟨3, ![4096, 71, D]⟩

section Gather

/-- `table[idx]` over the rows of an `N × D` table at a grid of row numbers: where `idx` holds a row number `b`, the
    result's entry is the table's entry in row `b`. -/
theorem gather_rows {α : Type} (d : GatherDims (tblS N D) S4096x71x1 (rowsS D)) (hoff : d.offsetDims = [2])
    (hcoll : d.collapsedSliceDims = [0]) (hob : d.operandBatchingDims = []) (hsim : d.startIndexMap = [0])
    (hivd : d.indexVectorDim = 2) (x : (tblS N D).Idx → α) (idx : IVec S4096x71x1 32) (r : Fin 4096) (t : Fin 71)
    (y : Fin D) (b : Fin N) (hb : idx (ix3 r t (0 : Fin 1)) = BitVec.ofNat 32 b.val) (hN : N < 2 ^ 31) :
    Host.gather d x idx (ix3 r t y) = x (ix2 b y) := by
  unfold Host.gather
  refine congrArg x (funext fun a => Fin.ext ?_)
  have hbN : ∀ a', a' ∉ d.operandBatchingDims := fun a' => by rw [hob]; exact List.not_mem_nil
  have hbd : d.batchDims = [(0 : Fin 3), 1] := by
    unfold GatherDims.batchDims
    rw [hoff]; rfl
  have hsi' : d.siKept = [(0 : Fin 3), 1] := by
    unfold GatherDims.siKept
    rw [hivd]; rfl
  have hB : ∀ (i : ℕ) (h : i < d.batchDims.length) (a : Fin 3), i = a.val → a.val < 2 → (ix3 r t y d.batchDims[i]).val = (ix3 r t (0 : Fin 1) a).val :=
    fun i h a e ha => by
      have h' : d.batchDims[i] = a := by
        rw [List.getElem_of_eq hbd h]
        subst e
        match a, ha with
        | ⟨0, _⟩, _ => rfl
        | ⟨1, _⟩, _ => rfl
      rw [h']
      match a, ha with
      | ⟨0, _⟩, _ => rfl
      | ⟨1, _⟩, _ => rfl
  have hsk : d.sKept = [(1 : Fin 2)] := by
    unfold GatherDims.sKept
    rw [hcoll, hob]; rfl
  match a with
  | ⟨0, _⟩ =>
    have hk : (0 : Fin 2) ∉ d.sKept := by rw [hsk]; exact of_decide_eq_true (p := (0 : Fin 2) ∉ [1]) rfl
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 r t y) idx 0 + d.batchCoord (ix3 r t y) 0 + d.offCoord (ix3 r t y) 0 = b.val
    rw [d.batchCoord_eq_zero _ _ (hbN 0), d.offCoord_eq_zero _ _ hk]
    simp only [Nat.add_zero]
    unfold GatherDims.start
    rw [dif_pos hm]
    have hsi : d.siIdx (ix3 r t y) ⟨d.startIndexMap.idxOf 0, List.idxOf_lt_length_iff.2 hm⟩ = ix3 r t (0 : Fin 1) := by
      funext b'
      apply Fin.ext
      match b' with
      | ⟨0, _⟩ =>
        unfold GatherDims.siIdx
        rw [dif_neg (by rw [hivd]; simp)]
        unfold GatherDims.siCoord
        simp only [Fin.val_cast]
        exact hB _ _ _ (by rw [hsi']; rfl) (by simp)
      | ⟨1, _⟩ =>
        unfold GatherDims.siIdx
        rw [dif_neg (by rw [hivd]; simp)]
        unfold GatherDims.siCoord
        simp only [Fin.val_cast]
        exact hB _ _ _ (by rw [hsi']; rfl) (by simp)
      | ⟨2, _⟩ =>
        unfold GatherDims.siIdx
        rw [dif_pos (by rw [hivd])]
        show List.idxOf (0 : Fin 2) d.startIndexMap = 0
        rw [hsim]; simp
    have hbl := b.isLt
    rw [hsi, hb, hsl, StableHlo.Predicate.toInt_ofNat_small _ (by omega)]
    show min ((b.val : Int)).toNat (N - 1) = b.val
    omega
  | ⟨1, _⟩ =>
    have hk : (1 : Fin 2) ∈ d.sKept := by rw [hsk]; exact List.mem_singleton.2 rfl
    have hm : (1 : Fin 2) ∉ d.startIndexMap := by rw [hsim]; exact of_decide_eq_true (p := (1 : Fin 2) ∉ [0]) rfl
    show d.start (ix3 r t y) idx 1 + d.batchCoord (ix3 r t y) 1 + d.offCoord (ix3 r t y) 1 = y.val
    rw [d.batchCoord_eq_zero _ _ (hbN 1), Nat.add_zero]
    unfold GatherDims.start GatherDims.offCoord
    rw [dif_neg hm, dif_pos hk, Nat.zero_add]
    have hx : ∀ X ∈ d.offsetDims, (ix3 r t y X).val = y.val := fun X hX => by
      rw [hoff] at hX
      rw [List.mem_singleton.1 hX]; rfl
    exact hx _ (List.getElem_mem _)

end Gather

section Rows

variable (d : GatherDims (tblS N D) S4096x71x1 (rowsS D)) (nw hi : BitVec 32) (mn : BitVec 32)
  (hs : S_.BroadcastsInDim S4096x71 (![] : Fin 0 → Fin S4096x71.rank))
  (hs1 : S_.BroadcastsInDim S4096x71x1 (![] : Fin 0 → Fin S4096x71x1.rank))
  (hsD : S_.BroadcastsInDim (rowsS D) (![] : Fin 0 → Fin (rowsS D).rank))
  (hu : S4096x71.BroadcastsInDim S4096x71x1 ![0, 1])
  (hc : S1.BroadcastsInDim S1x1x1 ![2])
  (hc' : S1x1x1.BroadcastsInDim S4096x71x1 ![0, 1, 2])
  (hD : S4096x71.BroadcastsInDim (rowsS D) ![0, 1])
  (hD' : S4096x71x1.BroadcastsInDim (rowsS D) ![0, 1, 2])
  (hr : S4096x71x1.ReducesTo [2] S4096x71) (hrD : (rowsS D).ReducesTo [2] S4096x71) (h0 : 0 < S_.numel)
  (w : IVec S4096x71 32) (T : (tblS N D).Idx → EReal)

/-- The row numbers, negative ones wrapped by the table's height, as a trailing unit axis. -/
def wrapped : IVec S4096x71x1 32 :=
  broadcastInDim S4096x71x1 ![0, 1] hu
    (select (cmpi .slt w (broadcastInDim S4096x71 ![] hs (constantI S_ 32 0#32)))
      (addi w (broadcastInDim S4096x71 ![] hs (constantI S_ 32 nw))) w)

/-- The rows looked up, before scaling. -/
def takeRows : FVec Ideal (rowsS D) .f32 :=
  select (broadcastInDim (rowsS D) ![0, 1] hD
      (Host.reduce IntOp.andi
        (andi (cmpi .sge (wrapped nw hs hu w) (broadcastInDim S4096x71x1 ![] hs1 (constantI S_ 32 0#32)))
          (cmpi .sle (wrapped nw hs hu w)
            (broadcastInDim S4096x71x1 ![0, 1, 2] hc' (broadcastInDim S1x1x1 ![2] hc (constantI S1 32 hi)))))
        (constantI S_ 1 1#1) hr h0))
    (Host.gather d T (wrapped nw hs hu w))
    (broadcastInDim (rowsS D) ![] hsD (constant (F := Ideal) S_ .f32 0x7FC00000#32))

/-- The norms of rows. -/
def rowNorms (v : FVec Ideal (rowsS D) .f32) : FVec Ideal S4096x71x1 .f32 :=
  Host.sqrt (broadcastInDim S4096x71x1 ![0, 1] hu
    (Host.reduceAdd (mulf v v) (constant (F := Ideal) S_ .f32 0x00000000#32) hrD h0))

/-- The rows scaled down to a largest norm. -/
def scaleRows (v : FVec Ideal (rowsS D) .f32) : FVec Ideal (rowsS D) .f32 :=
  mulf v (broadcastInDim (rowsS D) ![0, 1, 2] hD'
    (select (cmpf .ogt (rowNorms hu hrD h0 v) (broadcastInDim S4096x71x1 ![] hs1 (constant (F := Ideal) S_ .f32 mn)))
      (Host.divf (broadcastInDim S4096x71x1 ![] hs1 (constant (F := Ideal) S_ .f32 mn))
        (addf (rowNorms hu hrD h0 v) (broadcastInDim S4096x71x1 ![] hs1 (constant (F := Ideal) S_ .f32 0x33D6BF95#32))))
      (broadcastInDim S4096x71x1 ![] hs1 (constant (F := Ideal) S_ .f32 0x3F800000#32))))

theorem takeRows_apply (hoff : d.offsetDims = [2])
    (hcoll : d.collapsedSliceDims = [0]) (hob : d.operandBatchingDims = []) (hsim : d.startIndexMap = [0])
    (hivd : d.indexVectorDim = 2) (hN : N < 2 ^ 31) (hN3 : 3 ≤ N)
    (hhi : ∀ k : Fin 3, IntOp.cmpi .sle (BitVec.ofNat 32 k.val) hi = 1#1)
    (hw : ∀ i, ∃ k : Fin 3, w i = BitVec.ofNat 32 k.val)
    (r : Fin 4096) (t : Fin 71) (k : Fin 3) (hk : w (ix2 r t) = BitVec.ofNat 32 k.val) (y : Fin D) :
    takeRows d nw hi hs hs1 hsD hu hc hc' hD hr h0 w T (ix3 r t y) = T (ix2 (k.castLE hN3) y) := by
  have hwr : ∀ (i : S4096x71x1.Idx), wrapped nw hs hu w i = w (ix2 (i 0) (i 1)) := fun i => by
    obtain ⟨a, b, e, rfl⟩ : ∃ a b e, i = ix3 a b e := ⟨i 0, i 1, i 2, eq_ix3 i⟩
    unfold wrapped
    pointwise
    obtain ⟨q, hq⟩ := hw (ix2 a b)
    rw [hq]
    fin_cases q <;> rfl
  unfold takeRows
  have hg := gather_rows d hoff hcoll hob hsim hivd T (wrapped nw hs hu w) r t y (k.castLE hN3)
    (by rw [hwr]; exact hk) hN
  pointwise
  rw [hg, Finset.univ_unique, Finset.fold_singleton, hwr]
  show Scalar.select (IntOp.andi (IntOp.andi (IntOp.cmpi .sge (w (ix2 r t)) 0#32) (IntOp.cmpi .sle (w (ix2 r t)) hi)) 1#1) _ _ = _
  obtain ⟨q, hq⟩ := hw (ix2 r t)
  rw [hq, hhi]
  fin_cases q <;> rfl

theorem scaleRows_apply (v : FVec Ideal (rowsS D) .f32) (r : Fin 4096) (t : Fin 71) (y : Fin D) :
    scaleRows mn hs1 hu hD' hrD h0 v (ix3 r t y) = nrow (Ideal.ofBits .f32 mn) (fun j => v (ix3 r t j)) y := by
  unfold scaleRows rowNorms nrow scl
  pointwise

end Rows

end Cert.Proof

end
-- ==== Proof.RefValue.lean ====
/- The reference's two results at an index: the encoder's and the decoder's input of Spec.lean. -/
module

public import proofs.«01_k».proof.Proof.RefTake

@[expose] public section

set_option maxRecDepth 16384

noncomputable section

namespace Cert.Proof

open Idealize.ShloMosaic Idealize.ShloMosaic.StableHlo Idealize.SL.Sem
open Cert.ReferenceIdeal Cert.ReferenceIdeal.Read

/-- The scaled rows of a table at row numbers below three. -/
theorem rows_apply {N D : ℕ} (d : GatherDims (tblS N D) S4096x71x1 (rowsS D)) (nw hi mn : BitVec 32)
    (hs : S_.BroadcastsInDim S4096x71 (![] : Fin 0 → Fin S4096x71.rank))
    (hs1 : S_.BroadcastsInDim S4096x71x1 (![] : Fin 0 → Fin S4096x71x1.rank))
    (hsD : S_.BroadcastsInDim (rowsS D) (![] : Fin 0 → Fin (rowsS D).rank))
    (hu : S4096x71.BroadcastsInDim S4096x71x1 ![0, 1]) (hc : S1.BroadcastsInDim S1x1x1 ![2])
    (hc' : S1x1x1.BroadcastsInDim S4096x71x1 ![0, 1, 2]) (hD : S4096x71.BroadcastsInDim (rowsS D) ![0, 1])
    (hD' : S4096x71x1.BroadcastsInDim (rowsS D) ![0, 1, 2]) (hr : S4096x71x1.ReducesTo [2] S4096x71)
    (hrD : (rowsS D).ReducesTo [2] S4096x71) (h0 : 0 < S_.numel) (w : IVec S4096x71 32) (T : (tblS N D).Idx → EReal)
    (hoff : d.offsetDims = [2]) (hcoll : d.collapsedSliceDims = [0]) (hob : d.operandBatchingDims = [])
    (hsim : d.startIndexMap = [0]) (hivd : d.indexVectorDim = 2) (hN : N < 2 ^ 31) (hN3 : 3 ≤ N)
    (hhi : ∀ k : Fin 3, IntOp.cmpi .sle (BitVec.ofNat 32 k.val) hi = 1#1) (q : Fin 4096 → Fin 71 → Fin 3)
    (hq : ∀ r t, w (ix2 r t) = BitVec.ofNat 32 (q r t).val) (r : Fin 4096) (t : Fin 71) (y : Fin D) :
    scaleRows mn hs1 hu hD' hrD h0 (takeRows d nw hi hs hs1 hsD hu hc hc' hD hr h0 w T) (ix3 r t y)
      = tblRow hN3 mn T (q r t) y := by
  have hw : ∀ i, ∃ k : Fin 3, w i = BitVec.ofNat 32 k.val := fun i => by
    rw [eq_ix2 i]; exact ⟨_, hq _ _⟩
  rw [scaleRows_apply]
  unfold tblRow
  exact congrArg (fun f => nrow _ f y) (funext fun j => takeRows_apply d nw hi hs hs1 hsD hu hc hc' hD hr h0 w T
    hoff hcoll hob hsim hivd hN hN3 hhi hw r t (q r t) (hq r t) j)

variable (X : (colS 4).Idx → EReal) (XD : batS.Idx → EReal) (XI : (colS 14).Idx → BitVec 32)

theorem rows_0 (hI : InRange XI) (T : (tblS 337 8).Idx → EReal) (r : Fin 4096) (t : Fin 71) (y : Fin 8) :
    val_main_v15 (F := Ideal) XI T (ix3 r t y) = tblRow (by decide) 0x41000000#32 T (pickAt XI r t 0) y :=
  rows_apply _ 337#32 336#32 0x41000000#32 _ _ _ _ _ _ _ _ _ _ _ (val_main_v1 (F := Ideal) XI) T rfl rfl rfl rfl rfl (by decide)
    (by decide) (by decide) (fun r t => pickAt XI r t 0)
    (fun r t => ((val_main_v1_apply XI (ix2 r t)).trans (congrArg XI (by idx_ext))).trans (hI r t 0)) r t y

theorem rows_1 (hI : InRange XI) (T : (tblS 33 8).Idx → EReal) (r : Fin 4096) (t : Fin 71) (y : Fin 8) :
    val_main_v31 (F := Ideal) XI T (ix3 r t y) = tblRow (by decide) 0x41000000#32 T (pickAt XI r t 1) y :=
  rows_apply _ 33#32 32#32 0x41000000#32 _ _ _ _ _ _ _ _ _ _ _ (val_main_v17 (F := Ideal) XI) T rfl rfl rfl rfl rfl (by decide)
    (by decide) (by decide) (fun r t => pickAt XI r t 1)
    (fun r t => ((val_main_v17_apply XI (ix2 r t)).trans (congrArg XI (by idx_ext))).trans (hI r t 1)) r t y

theorem rows_2 (hI : InRange XI) (T : (tblS 5 2).Idx → EReal) (r : Fin 4096) (t : Fin 71) (y : Fin 2) :
    val_main_v47 (F := Ideal) XI T (ix3 r t y) = tblRow (by decide) 0x40000000#32 T (pickAt XI r t 2) y :=
  rows_apply _ 5#32 4#32 0x40000000#32 _ _ _ _ _ _ _ _ _ _ _ (val_main_v33 (F := Ideal) XI) T rfl rfl rfl rfl rfl (by decide)
    (by decide) (by decide) (fun r t => pickAt XI r t 2)
    (fun r t => ((val_main_v33_apply XI (ix2 r t)).trans (congrArg XI (by idx_ext))).trans (hI r t 2)) r t y

theorem rows_3 (hI : InRange XI) (T : (tblS 17 5).Idx → EReal) (r : Fin 4096) (t : Fin 71) (y : Fin 5) :
    val_main_v63 (F := Ideal) XI T (ix3 r t y) = tblRow (by decide) 0x40A00000#32 T (pickAt XI r t 3) y :=
  rows_apply _ 17#32 16#32 0x40A00000#32 _ _ _ _ _ _ _ _ _ _ _ (val_main_v49 (F := Ideal) XI) T rfl rfl rfl rfl rfl (by decide)
    (by decide) (by decide) (fun r t => pickAt XI r t 3)
    (fun r t => ((val_main_v49_apply XI (ix2 r t)).trans (congrArg XI (by idx_ext))).trans (hI r t 3)) r t y

theorem rows_4 (hI : InRange XI) (T : (tblS 54 5).Idx → EReal) (r : Fin 4096) (t : Fin 71) (y : Fin 5) :
    val_main_v79 (F := Ideal) XI T (ix3 r t y) = tblRow (by decide) 0x40A00000#32 T (pickAt XI r t 4) y :=
  rows_apply _ 54#32 53#32 0x40A00000#32 _ _ _ _ _ _ _ _ _ _ _ (val_main_v65 (F := Ideal) XI) T rfl rfl rfl rfl rfl (by decide)
    (by decide) (by decide) (fun r t => pickAt XI r t 4)
    (fun r t => ((val_main_v65_apply XI (ix2 r t)).trans (congrArg XI (by idx_ext))).trans (hI r t 4)) r t y

theorem rows_5 (hI : InRange XI) (T : (tblS 22 5).Idx → EReal) (r : Fin 4096) (t : Fin 71) (y : Fin 5) :
    val_main_v95 (F := Ideal) XI T (ix3 r t y) = tblRow (by decide) 0x40A00000#32 T (pickAt XI r t 5) y :=
  rows_apply _ 22#32 21#32 0x40A00000#32 _ _ _ _ _ _ _ _ _ _ _ (val_main_v81 (F := Ideal) XI) T rfl rfl rfl rfl rfl (by decide)
    (by decide) (by decide) (fun r t => pickAt XI r t 5)
    (fun r t => ((val_main_v81_apply XI (ix2 r t)).trans (congrArg XI (by idx_ext))).trans (hI r t 5)) r t y

theorem rows_6 (hI : InRange XI) (T : (tblS 31 10).Idx → EReal) (r : Fin 4096) (t : Fin 71) (y : Fin 10) :
    val_main_v111 (F := Ideal) XI T (ix3 r t y) = tblRow (by decide) 0x41200000#32 T (pickAt XI r t 6) y :=
  rows_apply _ 31#32 30#32 0x41200000#32 _ _ _ _ _ _ _ _ _ _ _ (val_main_v97 (F := Ideal) XI) T rfl rfl rfl rfl rfl (by decide)
    (by decide) (by decide) (fun r t => pickAt XI r t 6)
    (fun r t => ((val_main_v97_apply XI (ix2 r t)).trans (congrArg XI (by idx_ext))).trans (hI r t 6)) r t y

theorem rows_7 (hI : InRange XI) (T : (tblS 6 2).Idx → EReal) (r : Fin 4096) (t : Fin 71) (y : Fin 2) :
    val_main_v127 (F := Ideal) XI T (ix3 r t y) = tblRow (by decide) 0x40000000#32 T (pickAt XI r t 7) y :=
  rows_apply _ 6#32 5#32 0x40000000#32 _ _ _ _ _ _ _ _ _ _ _ (val_main_v113 (F := Ideal) XI) T rfl rfl rfl rfl rfl (by decide)
    (by decide) (by decide) (fun r t => pickAt XI r t 7)
    (fun r t => ((val_main_v113_apply XI (ix2 r t)).trans (congrArg XI (by idx_ext))).trans (hI r t 7)) r t y

theorem rows_8 (hI : InRange XI) (T : (tblS 3 2).Idx → EReal) (r : Fin 4096) (t : Fin 71) (y : Fin 2) :
    val_main_v143 (F := Ideal) XI T (ix3 r t y) = tblRow (by decide) 0x40000000#32 T (pickAt XI r t 8) y :=
  rows_apply _ 3#32 2#32 0x40000000#32 _ _ _ _ _ _ _ _ _ _ _ (val_main_v129 (F := Ideal) XI) T rfl rfl rfl rfl rfl (by decide)
    (by decide) (by decide) (fun r t => pickAt XI r t 8)
    (fun r t => ((val_main_v129_apply XI (ix2 r t)).trans (congrArg XI (by idx_ext))).trans (hI r t 8)) r t y

theorem rows_9 (hI : InRange XI) (T : (tblS 7 3).Idx → EReal) (r : Fin 4096) (t : Fin 71) (y : Fin 3) :
    val_main_v159 (F := Ideal) XI T (ix3 r t y) = tblRow (by decide) 0x40400000#32 T (pickAt XI r t 9) y :=
  rows_apply _ 7#32 6#32 0x40400000#32 _ _ _ _ _ _ _ _ _ _ _ (val_main_v145 (F := Ideal) XI) T rfl rfl rfl rfl rfl (by decide)
    (by decide) (by decide) (fun r t => pickAt XI r t 9)
    (fun r t => ((val_main_v145_apply XI (ix2 r t)).trans (congrArg XI (by idx_ext))).trans (hI r t 9)) r t y

variable (T : Tables)

/-- The ten lookups side by side. -/
theorem lookups (hI : InRange XI) (r : Fin 4096) (t : Fin 71) (c : Fin 50) :
    val_main_v160 (F := Ideal) XI T.t0 T.t1 T.t2 T.t3 T.t4 T.t5 T.t6 T.t7 T.t8 T.t9 (ix3 r t c) = emb T (pickAt XI r t) c := by
  unfold val_main_v160
  pointwise
  simp only [rows_0 XI hI, rows_1 XI hI, rows_2 XI hI, rows_3 XI hI, rows_4 XI hI, rows_5 XI hI, rows_6 XI hI, rows_7 XI hI,
    rows_8 XI hI, rows_9 XI hI]
  rfl

theorem ref_enc (hI : InRange XI) (r : Fin 4096) (t : Fin 56) (c : Fin 64) :
    val_main_v170 (F := Ideal) X XD XI T.t0 T.t1 T.t2 T.t3 T.t4 T.t5 T.t6 T.t7 T.t8 T.t9 (ix3 r t c) = encAt X XD XI T r t c := by
  pointwise [val_main_v170, val_main_v161, val_main_v162, val_main_v164, val_main_v163, val_main_v166, val_main_v165,
    val_main_v168, val_main_v167, val_main_v169]
  simp only [lookups XI T hI]
  unfold encAt
  repeat' (first | (exfalso; omega) | split)
  all_goals first | omega | rfl | exact congrArg X (by idx_ext) | exact congrArg XD (by idx_ext) | exact congrArg (emb _ _) (Fin.ext (by simp only; omega)) | exact congrArg (fun i => toR (XI i)) (by idx_ext)

/-- The identity matrix of the decoding steps. -/
theorem eye_apply (t : Fin 15) (k : ℕ) (hk : k < 15) :
    FloatOps.uitofp (F := Ideal) .f32 (IntOp.cmpi .eq (IntOp.addi (BitVec.ofNat 32 t.val) 0#32) (BitVec.ofNat 32 k))
      = if k = t.val then 1 else 0 := by
  have h : ∀ t k : Fin 15, IntOp.cmpi .eq (IntOp.addi (BitVec.ofNat 32 t.val) 0#32) (BitVec.ofNat 32 k.val)
      = if k.val = t.val then 1#1 else 0#1 := by decide +kernel
  rw [h t ⟨k, hk⟩]
  show (((if k = t.val then 1#1 else 0#1 : BitVec 1).toNat : ℝ) : EReal) = _
  split_ifs <;> simp

theorem ref_dec (hI : InRange XI) (r : Fin 4096) (t : Fin 15) (c : Fin 78) :
    val_main_v188 (F := Ideal) X XD XI T.t0 T.t1 T.t2 T.t3 T.t4 T.t5 T.t6 T.t7 T.t8 T.t9 (ix3 r t c) = decAt X XD XI T r t c := by
  pointwise [val_main_v188, val_main_v179, val_main_v180, val_main_v182, val_main_v181, val_main_v183, val_main_v184,
    val_main_v185, val_main_v186, val_main_v187, val_main_v178, val_main_v177, val_main_v176, val_main_v175, val_main_v174,
    val_main_v173, val_main_v172, val_main_v171, val_main_c]
  simp only [lookups XI T hI]
  rw [eye_apply t _ (by omega)]
  unfold decAt
  repeat' (first | (exfalso; omega) | split)
  all_goals first | omega | rfl | exact congrArg X (by idx_ext) | exact congrArg XD (by idx_ext) | exact congrArg (emb _ _) (Fin.ext (by simp only; omega)) | exact congrArg (fun i => toR (XI i)) (by idx_ext) |
    (exfalso; simp only at *; omega)

end Cert.Proof

end
-- ==== Proof.Range.lean ====
/- The precondition, read: every index column holds 0, 1 or 2. -/
module

public import proofs.«01_k».proof.Pre_indices_in_range
public import proofs.«01_k».proof.Proof.Spec
public import Idealize.ShloMosaic.Lib.Pointwise

@[expose] public section

set_option maxRecDepth 16384

noncomputable section

namespace Cert.Proof

open Idealize.ShloMosaic Idealize.SL.Sem

/-- The facts the precondition's operations take. -/
theorem preFacts : Cert.Pre_indices_in_range.Facts where
  slices_S4096x71x14_S4096x71x10_0_0_4 := by decide
  bcast_S_S4096x71x10 := by decide

/-- Both of two bits are 1 where their conjunction is. -/
theorem both_bits (a b : Bool) (h : IntOp.andi (BitVec.ofBool a) (BitVec.ofBool b) = 1#1) : a = true ∧ b = true := by
  revert a b
  decide

/-- A word between 0 and 2 is the word of the row it selects. -/
theorem word_of_bits (w : BitVec 32) (h : IntOp.andi (IntOp.cmpi .sge w 0#32) (IntOp.cmpi .slt w 3#32) = 1#1) :
    w = BitVec.ofNat 32 (sel w).val := by
  obtain ⟨h1, h2⟩ := both_bits ((0#32).sle w) (w.slt 3#32) h
  have e0 : (0#32 : BitVec 32).toInt = 0 := by decide
  have e3 : (3#32 : BitVec 32).toInt = 3 := by decide
  have g1 : 0 ≤ w.toInt := e0 ▸ of_decide_eq_true h1
  have g2 : w.toInt < 3 := e3 ▸ of_decide_eq_true h2
  have hw : w = 0#32 ∨ w = 1#32 ∨ w = 2#32 := by
    rcases (by omega : w.toInt = 0 ∨ w.toInt = 1 ∨ w.toInt = 2) with e | e | e
    · exact .inl (BitVec.eq_of_toInt_eq (e.trans (by decide)))
    · exact .inr (.inl (BitVec.eq_of_toInt_eq (e.trans (by decide))))
    · exact .inr (.inr (BitVec.eq_of_toInt_eq (e.trans (by decide))))
  rcases hw with rfl | rfl | rfl <;> rfl

/-- The precondition all ones says every index column holds a row number. -/
theorem range_of_pre [Cert.Pre_indices_in_range.Facts] (X : (colS 4).Idx → EReal) (XD : batS.Idx → EReal) (XI : (colS 14).Idx → BitVec 32)
    (T : Tables) (h : Cert.Pre_indices_in_range.fn (F := Ideal) X XD XI T.t0 T.t1 T.t2 T.t3 T.t4 T.t5 T.t6 T.t7 T.t8 T.t9 = fun _ => 1#1) :
    InRange XI := by
  intro r t k
  have e := congrFun h (ix3 r t k)
  pointwise [Cert.Pre_indices_in_range.fn] at e
  exact word_of_bits (XI (ix3 r t (k.natAdd 4))) e

end Cert.Proof

end
-- ==== Proof.Equation.lean ====
/- The launch's two results are the reference's, and the claim that both programs return the same arrays. -/
module

public import proofs.«01_k».proof.Defs
public import proofs.«01_k».proof.Proof.Results
public import proofs.«01_k».proof.Proof.RefValue
public import proofs.«01_k».proof.Proof.Range
public import proofs.«01_k».proof.Proof.KernelRun
public import proofs.«01_k».proof.Proof.Gen.ReferenceIdeal.Run
public import proofs.«01_k».proof.Proof.Gen.ReferenceIdeal.Read

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The encoder array that the launch leaves is the reference's first result of the launch's arguments. -/
theorem enc_eq (hI : InRange (ints m c)) :
    Cert.ReferenceIdeal.Read.val_main_v170 (F := Ideal) (reals m c) (batch m c) (ints m c)
        (tabs m c).t0 (tabs m c).t1 (tabs m c).t2 (tabs m c).t3 (tabs m c).t4 (tabs m c).t5 (tabs m c).t6 (tabs m c).t7 (tabs m c).t8 (tabs m c).t9
      = W4 m ρ c (Proc.devRef .tc main_v4) := by
  funext i
  obtain ⟨r, t, k, rfl⟩ : ∃ (r : Fin 4096) (t : Fin 56) (k : Fin 64), i = ix3 r t k := ⟨_, _, _, eq_ix3 i⟩
  exact (ref_enc _ _ _ (tabs m c) hI r t k).trans (enc_res m ρ c hI r t k).symm

/-- The decoder array that the launch leaves is the reference's second result of the launch's arguments. -/
theorem dec_eq (hI : InRange (ints m c)) :
    Cert.ReferenceIdeal.Read.val_main_v188 (F := Ideal) (reals m c) (batch m c) (ints m c)
        (tabs m c).t0 (tabs m c).t1 (tabs m c).t2 (tabs m c).t3 (tabs m c).t4 (tabs m c).t5 (tabs m c).t6 (tabs m c).t7 (tabs m c).t8 (tabs m c).t9
      = W4 m ρ c (Proc.devRef .tc main_v5) := by
  funext i
  obtain ⟨r, t, k, rfl⟩ : ∃ (r : Fin 4096) (t : Fin 15) (k : Fin 78), i = ix3 r t k := ⟨_, _, _, eq_ix3 i⟩
  exact (ref_dec _ _ _ (tabs m c) hI r t k).trans (dec_res m ρ c hI r t k).symm

/-- From memories that agree on the arguments, with indices in range, both programs run and return the same arrays. -/
theorem algebraic [Cert.Pre_indices_in_range.Facts] : Cert.algebraic_KernelIdeal_ReferenceIdeal_pre_indices_in_range := by
  intro m g m' g' hp ha
  have hI : ∀ c, InRange (ints m c) := fun c => range_of_pre (reals m c) (batch m c) (ints m c) (tabs m c) (hp c)
  refine ⟨fun c => W4 m g c (Proc.devRef .tc main_v4), fun c => W4 m g c (Proc.devRef .tc main_v5), run m g,
    (θ_run Cert.ReferenceIdeal.defs _ _).mono (fun r h c => ⟨(h c).1.trans ?_, (h c).2.1.trans ?_, (h c).2.2⟩)
      (Cert.ReferenceIdeal.Value.run m' g')⟩
  · refine (Cert.ReferenceIdeal.Read.val_main_v170_eq (StableHlo.launchContents m' c)).trans ?_
    refine Eq.trans ?_ (enc_eq m g c (hI c))
    obtain ⟨h0, h1, h2, h3, h4, h5, h6, h7, h8, h9, h10, h11, h12⟩ := ha c
    show Cert.ReferenceIdeal.Read.val_main_v170 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
    rw [h0, h1, h2, h3, h4, h5, h6, h7, h8, h9, h10, h11, h12]
    rfl
  · refine (Cert.ReferenceIdeal.Read.val_main_v188_eq (StableHlo.launchContents m' c)).trans ?_
    refine Eq.trans ?_ (dec_eq m g c (hI c))
    obtain ⟨h0, h1, h2, h3, h4, h5, h6, h7, h8, h9, h10, h11, h12⟩ := ha c
    show Cert.ReferenceIdeal.Read.val_main_v188 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
    rw [h0, h1, h2, h3, h4, h5, h6, h7, h8, h9, h10, h11, h12]
    rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference runs from every memory, leaves its arguments as they were, and ends with every counter at zero. -/
theorem reference_frame : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- Every claim of the certificate. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, @algebraic preFacts⟩

end Cert.Proof

end
